-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "mask" .f32 0xFF61B1E6#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x2048 : Shape := ⟨2, ![16384, 2048]⟩
abbrev S16x2048 : Shape := ⟨2, ![16, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16x2048 : S_.BroadcastsInDim S16x2048 (![] : Fin 0 → Fin S16x2048.rank)
  reducesTo_S16x2048_S_d0_1 : S16x2048.ReducesTo [0, 1] S_

variable [Facts]

def fn {F : FTy → Type} [FloatOps F] (main_arg0 : FVec F S16384x2048 .f32) (main_arg1 : FVec F S16x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16x2048 .f32 := Host.absf main_arg1
  let main_cst_0 : FVec F S_ .f32 := constant S_ .f32 0x7F800000#32
  let main_v5 : FVec F S16x2048 .f32 := broadcastInDim S16x2048 ![] bcast_S_S16x2048 main_cst_0
  let main_v6 : IVec S16x2048 1 := cmpf .olt main_v4 main_v5
  let main_c_1 : IVec S_ 1 := constantI S_ 1 1#1
  let main_v7 : IVec S_ 1 := (fun x v => Host.reduce IntOp.andi x v reducesTo_S16x2048_S_d0_1 h_S_) main_v6 main_c_1
  let main_v8 : IVec S_ 1 := andi main_v3 main_v7
  main_v8
-- ==== Kernel.lean ====
abbrev S16384x2048 : Shape := ⟨2, ![16384, 2048]⟩
abbrev S16x2048 : Shape := ⟨2, ![16, 2048]⟩
abbrev S16x16384 : Shape := ⟨2, ![16, 16384]⟩
abbrev S1024x2048 : Shape := ⟨2, ![1024, 2048]⟩
abbrev S16x1024 : Shape := ⟨2, ![16, 1024]⟩
abbrev S2x16384 : Shape := ⟨2, ![2, 16384]⟩
abbrev S16x512 : Shape := ⟨2, ![16, 512]⟩
abbrev S2x512 : Shape := ⟨2, ![2, 512]⟩
abbrev S_ : Shape := ⟨0, ![]⟩
abbrev S16 : Shape := ⟨1, ![16]⟩
abbrev S1x16 : Shape := ⟨2, ![1, 16]⟩
abbrev S16384x2 : Shape := ⟨2, ![16384, 2]⟩

abbrev nBuf : Table → Nat
  | .hbm => 7
  | .local .tc .vmem => 5
  | .local .scVector .vmem => 3
  | _ => 0

abbrev bufTy : (tb : Table) → Fin (nBuf tb) → BufTy
  | .hbm, ⟨0, _⟩ => ⟨S16384x2048, .f32⟩
  | .hbm, ⟨1, _⟩ => ⟨S16x2048, .f32⟩
  | .hbm, ⟨2, _⟩ => ⟨S16x16384, .f32⟩
  | .hbm, ⟨3, _⟩ => ⟨S2x16384, .f32⟩
  | .hbm, ⟨4, _⟩ => ⟨S2x16384, .i32⟩
  | .hbm, ⟨5, _⟩ => ⟨S16384x2, .f32⟩
  | .hbm, ⟨6, _⟩ => ⟨S16384x2, .i32⟩
  | .local .tc .vmem, ⟨0, _⟩ => ⟨S16x2048, .f32⟩
  | .local .tc .vmem, ⟨1, _⟩ => ⟨S1024x2048, .f32⟩
  | .local .tc .vmem, ⟨2, _⟩ => ⟨S1024x2048, .f32⟩
  | .local .tc .vmem, ⟨3, _⟩ => ⟨S16x1024, .f32⟩
  | .local .tc .vmem, ⟨4, _⟩ => ⟨S16x1024, .f32⟩
  | .local .scVector .vmem, ⟨0, _⟩ => ⟨S16x512, .f32⟩
  | .local .scVector .vmem, ⟨1, _⟩ => ⟨S2x512, .f32⟩
  | .local .scVector .vmem, ⟨2, _⟩ => ⟨S2x512, .i32⟩
  | _, _ => ⟨S16384x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v0_scv : Ref sig .scVector := ⟨.hbm, 2, rfl⟩
abbrev main_v1_0_scv : Ref sig .scVector := ⟨.hbm, 3, rfl⟩
abbrev main_v1_1_scv : Ref sig .scVector := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 2 → Nat :=
  let c0_i32_1_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
@[reducible] def k1_t1_loop : Scf.Loop 32 :=
  let c0_i32 : BitVec 32 := 0#32
  let c32_i32 : BitVec 32 := 32#32
  let v5 : BitVec 32 := Scalar.addi c0_i32 c32_i32
  let c1_i32 : BitVec 32 := 1#32
  ⟨c0_i32, v5, c1_i32⟩
def k1_off2 (k1_t1 : Fin k1_t1_loop.trips) : Fin 2 → Nat :=
  let c0_i32_3 : BitVec 32 := 0#32
  let v8 : Index := Scalar.indexCast c0_i32_3
  let c0_i32_2 : BitVec 32 := 0#32
  let c0_i32 : BitVec 32 := 0#32
  let c1_i32 : BitVec 32 := 1#32
  let arg8 : BitVec 32 := Scf.iv c0_i32 c1_i32 k1_t1
  let c16_i32_1 : BitVec 32 := 16#32
  let v6 : BitVec 32 := Scalar.muli arg8 c16_i32_1
  let v7 : BitVec 32 := Scalar.addi c0_i32_2 v6
  let v9 : Index := Scalar.indexCast v7
  ![0, v9.toNat]
def k1_off3 (k1_t1 : Fin k1_t1_loop.trips) : Fin 2 → Nat :=
  let c1_i32_4 : BitVec 32 := 1#32
  let v11 : Index := Scalar.indexCast c1_i32_4
  let c0_i32_2 : BitVec 32 := 0#32
  let c0_i32 : BitVec 32 := 0#32
  let c1_i32 : BitVec 32 := 1#32
  let arg8 : BitVec 32 := Scf.iv c0_i32 c1_i32 k1_t1
  let c16_i32_1 : BitVec 32 := 16#32
  let v6 : BitVec 32 := Scalar.muli arg8 c16_i32_1
  let v7 : BitVec 32 := Scalar.addi c0_i32_2 v6
  let v12 : Index := Scalar.indexCast v7
  ![1, v12.toNat]
def k1_off4 (k1_t1 : Fin k1_t1_loop.trips) : Fin 2 → Nat :=
  let c2_i32_5 : BitVec 32 := 2#32
  let v14 : Index := Scalar.indexCast c2_i32_5
  let c0_i32_2 : BitVec 32 := 0#32
  let c0_i32 : BitVec 32 := 0#32
  let c1_i32 : BitVec 32 := 1#32
  let arg8 : BitVec 32 := Scf.iv c0_i32 c1_i32 k1_t1
  let c16_i32_1 : BitVec 32 := 16#32
  let v6 : BitVec 32 := Scalar.muli arg8 c16_i32_1
  let v7 : BitVec 32 := Scalar.addi c0_i32_2 v6
  let v15 : Index := Scalar.indexCast v7
  ![2, v15.toNat]
def k1_off5 (k1_t1 : Fin k1_t1_loop.trips) : Fin 2 → Nat :=
  let c3_i32 : BitVec 32 := 3#32
  let v17 : Index := Scalar.indexCast c3_i32
  let c0_i32_2 : BitVec 32 := 0#32
  let c0_i32 : BitVec 32 := 0#32
  let c1_i32 : BitVec 32 := 1#32
  let arg8 : BitVec 32 := Scf.iv c0_i32 c1_i32 k1_t1
  let c16_i32_1 : BitVec 32 := 16#32
  let v6 : BitVec 32 := Scalar.muli arg8 c16_i32_1
  let v7 : BitVec 32 := Scalar.addi c0_i32_2 v6
  let v18 : Index := Scalar.indexCast v7
  ![3, v18.toNat]
def k1_off6 (k1_t1 : Fin k1_t1_loop.trips) : Fin 2 → Nat :=
  let c4_i32 : BitVec 32 := 4#32
  let v20 : Index := Scalar.indexCast c4_i32
  let c0_i32_2 : BitVec 32 := 0#32
  let c0_i32 : BitVec 32 := 0#32
  let c1_i32 : BitVec 32 := 1#32
  let arg8 : BitVec 32 := Scf.iv c0_i32 c1_i32 k1_t1
  let c16_i32_1 : BitVec 32 := 16#32
  let v6 : BitVec 32 := Scalar.muli arg8 c16_i32_1
  let v7 : BitVec 32 := Scalar.addi c0_i32_2 v6
  let v21 : Index := Scalar.indexCast v7
  ![4, v21.toNat]
def k1_off7 (k1_t1 : Fin k1_t1_loop.trips) : Fin 2 → Nat :=
  let c5_i32 : BitVec 32 := 5#32
  let v23 : Index := Scalar.indexCast c5_i32
  let c0_i32_2 : BitVec 32 := 0#32
  let c0_i32 : BitVec 32 := 0#32
  let c1_i32 : BitVec 32 := 1#32
  let arg8 : BitVec 32 := Scf.iv c0_i32 c1_i32 k1_t1
  let c16_i32_1 : BitVec 32 := 16#32
  let v6 : BitVec 32 := Scalar.muli arg8 c16_i32_1
  let v7 : BitVec 32 := Scalar.addi c0_i32_2 v6
  let v24 : Index := Scalar.indexCast v7
  ![5, v24.toNat]
def k1_off8 (k1_t1 : Fin k1_t1_loop.trips) : Fin 2 → Nat :=
  let c6_i32 : BitVec 32 := 6#32
  let v26 : Index := Scalar.indexCast c6_i32
  let c0_i32_2 : BitVec 32 := 0#32
  let c0_i32 : BitVec 32 := 0#32
  let c1_i32 : BitVec 32 := 1#32
  let arg8 : BitVec 32 := Scf.iv c0_i32 c1_i32 k1_t1
  let c16_i32_1 : BitVec 32 := 16#32
  let v6 : BitVec 32 := Scalar.muli arg8 c16_i32_1
  let v7 : BitVec 32 := Scalar.addi c0_i32_2 v6
  let v27 : Index := Scalar.indexCast v7
  ![6, v27.toNat]
def k1_off9 (k1_t1 : Fin k1_t1_loop.trips) : Fin 2 → Nat :=
  let c7_i32 : BitVec 32 := 7#32
  let v29 : Index := Scalar.indexCast c7_i32
  let c0_i32_2 : BitVec 32 := 0#32
  let c0_i32 : BitVec 32 := 0#32
  let c1_i32 : BitVec 32 := 1#32
  let arg8 : BitVec 32 := Scf.iv c0_i32 c1_i32 k1_t1
  let c16_i32_1 : BitVec 32 := 16#32
  let v6 : BitVec 32 := Scalar.muli arg8 c16_i32_1
  let v7 : BitVec 32 := Scalar.addi c0_i32_2 v6
  let v30 : Index := Scalar.indexCast v7
  ![7, v30.toNat]
def k1_off10 (k1_t1 : Fin k1_t1_loop.trips) : Fin 2 → Nat :=
  let c8_i32 : BitVec 32 := 8#32
  let v32 : Index := Scalar.indexCast c8_i32
  let c0_i32_2 : BitVec 32 := 0#32
  let c0_i32 : BitVec 32 := 0#32
  let c1_i32 : BitVec 32 := 1#32
  let arg8 : BitVec 32 := Scf.iv c0_i32 c1_i32 k1_t1
  let c16_i32_1 : BitVec 32 := 16#32
  let v6 : BitVec 32 := Scalar.muli arg8 c16_i32_1
  let v7 : BitVec 32 := Scalar.addi c0_i32_2 v6
  let v33 : Index := Scalar.indexCast v7
  ![8, v33.toNat]
def k1_off11 (k1_t1 : Fin k1_t1_loop.trips) : Fin 2 → Nat :=
  let c9_i32 : BitVec 32 := 9#32
  let v35 : Index := Scalar.indexCast c9_i32
  let c0_i32_2 : BitVec 32 := 0#32
  let c0_i32 : BitVec 32 := 0#32
  let c1_i32 : BitVec 32 := 1#32
  let arg8 : BitVec 32 := Scf.iv c0_i32 c1_i32 k1_t1
  let c16_i32_1 : BitVec 32 := 16#32
  let v6 : BitVec 32 := Scalar.muli arg8 c16_i32_1
  let v7 : BitVec 32 := Scalar.addi c0_i32_2 v6
  let v36 : Index := Scalar.indexCast v7
  ![9, v36.toNat]
def k1_off12 (k1_t1 : Fin k1_t1_loop.trips) : Fin 2 → Nat :=
  let c10_i32 : BitVec 32 := 10#32
  let v38 : Index := Scalar.indexCast c10_i32
  let c0_i32_2 : BitVec 32 := 0#32
  let c0_i32 : BitVec 32 := 0#32
  let c1_i32 : BitVec 32 := 1#32
  let arg8 : BitVec 32 := Scf.iv c0_i32 c1_i32 k1_t1
  let c16_i32_1 : BitVec 32 := 16#32
  let v6 : BitVec 32 := Scalar.muli arg8 c16_i32_1
  let v7 : BitVec 32 := Scalar.addi c0_i32_2 v6
  let v39 : Index := Scalar.indexCast v7
  ![10, v39.toNat]
def k1_off13 (k1_t1 : Fin k1_t1_loop.trips) : Fin 2 → Nat :=
  let c11_i32 : BitVec 32 := 11#32
  let v41 : Index := Scalar.indexCast c11_i32
  let c0_i32_2 : BitVec 32 := 0#32
  let c0_i32 : BitVec 32 := 0#32
  let c1_i32 : BitVec 32 := 1#32
  let arg8 : BitVec 32 := Scf.iv c0_i32 c1_i32 k1_t1
  let c16_i32_1 : BitVec 32 := 16#32
  let v6 : BitVec 32 := Scalar.muli arg8 c16_i32_1
  let v7 : BitVec 32 := Scalar.addi c0_i32_2 v6
  let v42 : Index := Scalar.indexCast v7
  ![11, v42.toNat]
def k1_off14 (k1_t1 : Fin k1_t1_loop.trips) : Fin 2 → Nat :=
  let c12_i32 : BitVec 32 := 12#32
  let v44 : Index := Scalar.indexCast c12_i32
  let c0_i32_2 : BitVec 32 := 0#32
  let c0_i32 : BitVec 32 := 0#32
  let c1_i32 : BitVec 32 := 1#32
  let arg8 : BitVec 32 := Scf.iv c0_i32 c1_i32 k1_t1
  let c16_i32_1 : BitVec 32 := 16#32
  let v6 : BitVec 32 := Scalar.muli arg8 c16_i32_1
  let v7 : BitVec 32 := Scalar.addi c0_i32_2 v6
  let v45 : Index := Scalar.indexCast v7
  ![12, v45.toNat]
def k1_off15 (k1_t1 : Fin k1_t1_loop.trips) : Fin 2 → Nat :=
  let c13_i32 : BitVec 32 := 13#32
  let v47 : Index := Scalar.indexCast c13_i32
  let c0_i32_2 : BitVec 32 := 0#32
  let c0_i32 : BitVec 32 := 0#32
  let c1_i32 : BitVec 32 := 1#32
  let arg8 : BitVec 32 := Scf.iv c0_i32 c1_i32 k1_t1
  let c16_i32_1 : BitVec 32 := 16#32
  let v6 : BitVec 32 := Scalar.muli arg8 c16_i32_1
  let v7 : BitVec 32 := Scalar.addi c0_i32_2 v6
  let v48 : Index := Scalar.indexCast v7
  ![13, v48.toNat]
def k1_off16 (k1_t1 : Fin k1_t1_loop.trips) : Fin 2 → Nat :=
  let c14_i32 : BitVec 32 := 14#32
  let v50 : Index := Scalar.indexCast c14_i32
  let c0_i32_2 : BitVec 32 := 0#32
  let c0_i32 : BitVec 32 := 0#32
  let c1_i32 : BitVec 32 := 1#32
  let arg8 : BitVec 32 := Scf.iv c0_i32 c1_i32 k1_t1
  let c16_i32_1 : BitVec 32 := 16#32
  let v6 : BitVec 32 := Scalar.muli arg8 c16_i32_1
  let v7 : BitVec 32 := Scalar.addi c0_i32_2 v6
  let v51 : Index := Scalar.indexCast v7
  ![14, v51.toNat]
def k1_off17 (k1_t1 : Fin k1_t1_loop.trips) : Fin 2 → Nat :=
  let c15_i32 : BitVec 32 := 15#32
  let v53 : Index := Scalar.indexCast c15_i32
  let c0_i32_2 : BitVec 32 := 0#32
  let c0_i32 : BitVec 32 := 0#32
  let c1_i32 : BitVec 32 := 1#32
  let arg8 : BitVec 32 := Scf.iv c0_i32 c1_i32 k1_t1
  let c16_i32_1 : BitVec 32 := 16#32
  let v6 : BitVec 32 := Scalar.muli arg8 c16_i32_1
  let v7 : BitVec 32 := Scalar.addi c0_i32_2 v6
  let v54 : Index := Scalar.indexCast v7
  ![15, v54.toNat]
def k1_off18 (k1_t1 : Fin k1_t1_loop.trips) : Fin 2 → Nat :=
  let c0_i32_104 : BitVec 32 := 0#32
  let v350 : Index := Scalar.indexCast c0_i32_104
  let c0_i32_2 : BitVec 32 := 0#32
  let c0_i32 : BitVec 32 := 0#32
  let c1_i32 : BitVec 32 := 1#32
  let arg8 : BitVec 32 := Scf.iv c0_i32 c1_i32 k1_t1
  let c16_i32_1 : BitVec 32 := 16#32
  let v6 : BitVec 32 := Scalar.muli arg8 c16_i32_1
  let v7 : BitVec 32 := Scalar.addi c0_i32_2 v6
  let v351 : Index := Scalar.indexCast v7
  ![0, v351.toNat]
def k1_off19 (k1_t1 : Fin k1_t1_loop.trips) : Fin 2 → Nat :=
  let c1_i32_105 : BitVec 32 := 1#32
  let v353 : Index := Scalar.indexCast c1_i32_105
  let c0_i32_2 : BitVec 32 := 0#32
  let c0_i32 : BitVec 32 := 0#32
  let c1_i32 : BitVec 32 := 1#32
  let arg8 : BitVec 32 := Scf.iv c0_i32 c1_i32 k1_t1
  let c16_i32_1 : BitVec 32 := 16#32
  let v6 : BitVec 32 := Scalar.muli arg8 c16_i32_1
  let v7 : BitVec 32 := Scalar.addi c0_i32_2 v6
  let v354 : Index := Scalar.indexCast v7
  ![1, v354.toNat]
def k1_off20 (i : grid1.Coords) : Fin 2 → Nat :=
  let c0_i32_1_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S16384x2048 : Shape := ⟨2, ![16384, 2048]⟩
abbrev S16x2048 : Shape := ⟨2, ![16, 2048]⟩
abbrev S2048x16 : Shape := ⟨2, ![2048, 16]⟩
abbrev S16384x16 : Shape := ⟨2, ![16384, 16]⟩
abbrev S_ : Shape := ⟨0, ![]⟩
abbrev S16384 : Shape := ⟨1, ![16384]⟩
abbrev S16384x1 : Shape := ⟨2, ![16384, 1]⟩
abbrev S16384x2 : Shape := ⟨2, ![16384, 2]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16x2048, .f32⟩
  | .hbm, ⟨2, _⟩ => ⟨S2048x16, .f32⟩
  | .hbm, ⟨3, _⟩ => ⟨S16384x16, .f32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S16384x1, .f32⟩
  | .hbm, ⟨10, _⟩ => ⟨S16384x16, .f32⟩
  | .hbm, ⟨11, _⟩ => ⟨S16384x16, .f32⟩
  | .hbm, ⟨12, _⟩ => ⟨S16384x16, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x16, .f32⟩
  | .hbm, ⟨17, _⟩ => ⟨S16384x16, .f32⟩
  | .hbm, ⟨18, _⟩ => ⟨S16384x2, .f32⟩
  | .hbm, ⟨19, _⟩ => ⟨S16384x2, .i32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S16384x2, .f32⟩
  | .hbm, ⟨24, _⟩ => ⟨S16384x2, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_values : Ref sig .tc := ⟨.hbm, 18, rfl⟩
abbrev main_indices : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Proof.Token.lean ====
/-
  One token's routing as scalar functions of its expert logits: the running maximum, the lowest index reaching it, the maximum and
  the lowest index of the others, and the two normalised weights. They are stated over any float family, in the order of operations
  in which the kernel computes them lane by lane, so that a lane of the kernel's vectors is these functions of the lane's logits.
-/
module

public import Idealize.ShloMosaic.PureOps

@[expose] public section

noncomputable section

namespace Cert.Router

open Idealize.ShloMosaic

variable {F : FTy → Type} [FloatOps F]

/-- The maximum of the logits `0, …, n`. -/
def topMax (l : ℕ → F .f32) : ℕ → F .f32
  | 0 => l 0
  | n + 1 => FloatOps.maximumf (topMax l n) (l (n + 1))

/-- The least index below `n` whose logit equals `m`, and `16` where none does. -/
def topIdx (l : ℕ → F .f32) (m : F .f32) : ℕ → BitVec 32
  | 0 => 16#32
  | n + 1 => IntOp.minsi (topIdx l m n) (Scalar.select (FloatOps.cmpf .oeq (l n) m) (BitVec.ofNat 32 n) 16#32)

/-- The logit of index `n` among those that are not index `i`: `neg` at `i` itself. -/
def other (neg : F .f32) (l : ℕ → F .f32) (i : BitVec 32) (n : ℕ) : F .f32 :=
  Scalar.select (IntOp.cmpi .eq i (BitVec.ofNat 32 n)) neg (l n)

/-- The maximum, from `neg` on, of the logits below `n` other than index `i`'s. -/
def sndMax (neg : F .f32) (l : ℕ → F .f32) (i : BitVec 32) : ℕ → F .f32
  | 0 => neg
  | n + 1 => FloatOps.maximumf (sndMax neg l i n) (other neg l i n)

/-- The least index below `n`, other than `i`, whose logit equals `m`, and `16` where none does. -/
def sndIdx (l : ℕ → F .f32) (m : F .f32) (i : BitVec 32) : ℕ → BitVec 32
  | 0 => 16#32
  | n + 1 => IntOp.minsi (sndIdx l m i n)
      (Scalar.select (IntOp.andi (FloatOps.cmpf .oeq (l n) m) (IntOp.cmpi .ne i (BitVec.ofNat 32 n))) (BitVec.ofNat 32 n) 16#32)

/-- The float one. -/
abbrev one : F .f32 := Scalar.ofBits .f32 0x3F800000#32

/-- A token's largest logit, -/
def m1 (l : ℕ → F .f32) : F .f32 := topMax l 15
/-- the expert it belongs to, -/
def i1 (l : ℕ → F .f32) : BitVec 32 := topIdx l (m1 l) 16
/-- the largest logit of the other experts, -/
def m2 (neg : F .f32) (l : ℕ → F .f32) : F .f32 := sndMax neg l (i1 l) 16
/-- the expert that one belongs to, -/
def i2 (neg : F .f32) (l : ℕ → F .f32) : BitVec 32 := sndIdx l (m2 neg l) (i1 l) 16
/-- the second expert's exponential relative to the first's, -/
def t (neg : F .f32) (l : ℕ → F .f32) : F .f32 := FloatOps.exp (FloatOps.subf (m2 neg l) (m1 l))
/-- the first expert's normalised weight -/
def w1 (neg : F .f32) (l : ℕ → F .f32) : F .f32 := FloatOps.divf one (FloatOps.addf one (t neg l))
/-- and the second's. -/
def w2 (neg : F .f32) (l : ℕ → F .f32) : F .f32 := FloatOps.mulf (t neg l) (w1 neg l)

end Cert.Router

end
-- ==== Proof.Lanes.lean ====
/-
  The vector subcores' payload, lane by lane: the values one trip of the kernel's loop stores, as functions of the sixteen rows it
  loads, and each of their lanes as a token's scalar routing (Proof/Token.lean).
-/
module

public import proofs.«01_k».proof.Proof.Token
public import proofs.«01_k».proof.Proof.Gen.KernelIdeal
public import proofs.«01_k».proof.Proof.Gen.KernelIdeal.Skeleton

@[expose] public section

noncomputable section

namespace Cert.KernelIdeal.Routing

open Cert.KernelIdeal Cert.KernelIdeal.Gen
open Idealize.ShloMosaic

variable {F : FTy → Type} [FloatOps F] [Named F]

/-- The kernel's stand-in for minus infinity. -/
abbrev neg : F .f32 := Named.named κ "mask" 0xFF61B1E6#32

/-- Lane `x` of the loaded rows: one token's logits. -/
abbrev lane (ld : ℕ → Vec F S1x16 .f32) (x : S16.Idx) : ℕ → F .f32 := fun n => shapeCast S16 (ld n) shapeCasts_S1x16_S16 x

variable (ld : ℕ → Vec F S1x16 .f32)

/-- The vector of largest logits, -/
def vm1 : FVec F S16 .f32 :=
  k1_pay19 (k1_pay3 (ld 0)) (k1_pay4 (ld 1)) (k1_pay5 (ld 2)) (k1_pay6 (ld 3)) (k1_pay7 (ld 4)) (k1_pay8 (ld 5)) (k1_pay9 (ld 6))
    (k1_pay10 (ld 7)) (k1_pay11 (ld 8)) (k1_pay12 (ld 9)) (k1_pay13 (ld 10)) (ld 11) (ld 12) (ld 13) (ld 14) (ld 15)

/-- A lane's largest logit is its token's. -/
theorem vm1_apply (x : S16.Idx) : vm1 ld x = Router.m1 (lane ld x) := rfl

/-- the partial minimum of the indices of experts 0 to 10 that reach it, -/
def vi1a : IVec S16 32 :=
  k1_pay22 (k1_pay6 (ld 3)) (k1_pay7 (ld 4)) (k1_pay8 (ld 5)) (k1_pay9 (ld 6)) (k1_pay10 (ld 7)) (k1_pay11 (ld 8)) (k1_pay12 (ld 9))
    (k1_pay13 (ld 10)) (vm1 ld)
    (k1_pay20 k1_pay2 (k1_pay3 (ld 0)) (k1_pay4 (ld 1)) (k1_pay5 (ld 2)) (k1_pay6 (ld 3)) (k1_pay7 (ld 4)) (k1_pay8 (ld 5)) (k1_pay9 (ld 6))
      (k1_pay10 (ld 7)) (k1_pay11 (ld 8)) (k1_pay12 (ld 9)) (k1_pay13 (ld 10)) (ld 11) (ld 12) (ld 13) (ld 14) (ld 15))
    (k1_pay21 (k1_pay3 (ld 0)) (k1_pay4 (ld 1)) (k1_pay5 (ld 2)) (k1_pay6 (ld 3)) (k1_pay7 (ld 4)) (k1_pay8 (ld 5)) (k1_pay9 (ld 6))
      (k1_pay10 (ld 7)) (k1_pay11 (ld 8)) (k1_pay12 (ld 9)) (k1_pay13 (ld 10)) (ld 11) (ld 12) (ld 13) (ld 14) (ld 15))

/-- The first half of the search for its index is the token's, over eleven experts. -/
theorem vi1a_apply (x : S16.Idx) : vi1a ld x = Router.topIdx (lane ld x) (vm1 ld x) 11 := rfl

/-- the indices of the largest logits, -/
def vi1 : IVec S16 32 :=
  k1_pay24 (k1_pay15 (ld 12)) (k1_pay16 (ld 13)) (k1_pay17 (ld 14)) (k1_pay18 (ld 15)) (vm1 ld) (vi1a ld)
    (k1_pay23 (k1_pay14 (ld 11)) (vm1 ld)) 11#32 16#32

/-- A lane's first expert is its token's. -/
theorem vi1_apply (x : S16.Idx) : vi1 ld x = Router.i1 (lane ld x) := by
  have h : vi1 ld x = IntOp.minsi (IntOp.minsi (IntOp.minsi (IntOp.minsi (IntOp.minsi (vi1a ld x)
      (Scalar.select (FloatOps.cmpf .oeq (lane ld x 11) (vm1 ld x)) 11#32 16#32))
      (Scalar.select (FloatOps.cmpf .oeq (lane ld x 12) (vm1 ld x)) 12#32 16#32))
      (Scalar.select (FloatOps.cmpf .oeq (lane ld x 13) (vm1 ld x)) 13#32 16#32))
      (Scalar.select (FloatOps.cmpf .oeq (lane ld x 14) (vm1 ld x)) 14#32 16#32))
      (Scalar.select (FloatOps.cmpf .oeq (lane ld x 15) (vm1 ld x)) 15#32 16#32) := rfl
  rw [h, vi1a_apply, vm1_apply]; rfl

/-- the partial maximum of the others among experts 0 to 4, -/
def vm2a : FVec F S16 .f32 :=
  k1_pay25 k1_pay1 (k1_pay3 (ld 0)) (k1_pay4 (ld 1)) (k1_pay5 (ld 2)) (k1_pay6 (ld 3)) (k1_pay7 (ld 4))
    (k1_pay15 (ld 12)) (k1_pay16 (ld 13)) (k1_pay17 (ld 14)) (k1_pay18 (ld 15)) (vm1 ld) (vi1a ld)
    (k1_pay23 (k1_pay14 (ld 11)) (vm1 ld)) 11#32 16#32

/-- The first part of the second maximum is the token's, over five experts. -/
theorem vm2a_apply (x : S16.Idx) : vm2a ld x = Router.sndMax neg (lane ld x) (vi1 ld x) 5 := rfl

/-- the largest of the other logits, -/
def vm2 : FVec F S16 .f32 :=
  k1_pay27 k1_pay1 (k1_pay8 (ld 5)) (k1_pay9 (ld 6)) (k1_pay10 (ld 7)) (k1_pay11 (ld 8)) (k1_pay12 (ld 9)) (k1_pay13 (ld 10)) (k1_pay14 (ld 11))
    (k1_pay15 (ld 12)) (k1_pay16 (ld 13)) (k1_pay17 (ld 14)) (k1_pay18 (ld 15)) (vi1 ld) (vm2a ld)
    (k1_pay26 (k1_pay15 (ld 12)) (k1_pay16 (ld 13)) (k1_pay17 (ld 14)) (k1_pay18 (ld 15)) (vm1 ld) (vi1a ld)
      (k1_pay23 (k1_pay14 (ld 11)) (vm1 ld)) 11#32 16#32)

/-- A lane's second maximum is its token's. -/
theorem vm2_apply (x : S16.Idx) : vm2 ld x = Router.m2 neg (lane ld x) := by
  have h : ∀ (y : F .f32), vm2a ld x = y → vm2 ld x = FloatOps.maximumf (FloatOps.maximumf (FloatOps.maximumf (FloatOps.maximumf
      (FloatOps.maximumf (FloatOps.maximumf (FloatOps.maximumf (FloatOps.maximumf (FloatOps.maximumf (FloatOps.maximumf (FloatOps.maximumf y
      (Router.other neg (lane ld x) (vi1 ld x) 5)) (Router.other neg (lane ld x) (vi1 ld x) 6)) (Router.other neg (lane ld x) (vi1 ld x) 7))
      (Router.other neg (lane ld x) (vi1 ld x) 8)) (Router.other neg (lane ld x) (vi1 ld x) 9)) (Router.other neg (lane ld x) (vi1 ld x) 10))
      (Router.other neg (lane ld x) (vi1 ld x) 11)) (Router.other neg (lane ld x) (vi1 ld x) 12)) (Router.other neg (lane ld x) (vi1 ld x) 13))
      (Router.other neg (lane ld x) (vi1 ld x) 14)) (Router.other neg (lane ld x) (vi1 ld x) 15) := by
    rintro _ rfl; rfl
  rw [h _ (vm2a_apply ld x), vi1_apply]; rfl

/-- the partial minimum of the indices of experts 0 to 5 that reach it, -/
def vi2a : IVec S16 32 :=
  k1_pay30 k1_pay2 (k1_pay4 (ld 1)) (k1_pay5 (ld 2)) (k1_pay6 (ld 3)) (k1_pay7 (ld 4)) (k1_pay8 (ld 5)) (vi1 ld) (vm2 ld)
    (k1_pay28 k1_pay1 (k1_pay3 (ld 0)) (k1_pay8 (ld 5)) (k1_pay9 (ld 6)) (k1_pay10 (ld 7)) (k1_pay11 (ld 8)) (k1_pay12 (ld 9)) (k1_pay13 (ld 10))
      (k1_pay14 (ld 11)) (k1_pay15 (ld 12)) (k1_pay16 (ld 13)) (k1_pay17 (ld 14)) (k1_pay18 (ld 15)) (vi1 ld) (vm2a ld)
      (k1_pay26 (k1_pay15 (ld 12)) (k1_pay16 (ld 13)) (k1_pay17 (ld 14)) (k1_pay18 (ld 15)) (vm1 ld) (vi1a ld)
        (k1_pay23 (k1_pay14 (ld 11)) (vm1 ld)) 11#32 16#32)) 16#32 k1_pay29

/-- The first part of the search for its index is the token's, over six experts, -/
theorem vi2a_apply (x : S16.Idx) : vi2a ld x = Router.sndIdx (lane ld x) (vm2 ld x) (vi1 ld x) 6 := rfl

/-- the partial minimum of the indices of experts 0 to 10 that reach it, -/
def vi2b : IVec S16 32 :=
  k1_pay32 (k1_pay10 (ld 7)) (k1_pay11 (ld 8)) (k1_pay12 (ld 9)) (k1_pay13 (ld 10)) (vi1 ld) (vm2 ld) (vi2a ld) (k1_pay31 (k1_pay9 (ld 6)) (vm2 ld)) 6#32

/-- and the next over eleven. -/
theorem vi2b_apply (x : S16.Idx) : vi2b ld x = Router.sndIdx (lane ld x) (vm2 ld x) (vi1 ld x) 11 := by
  have h : ∀ y, vi2a ld x = y → vi2b ld x = IntOp.minsi (IntOp.minsi (IntOp.minsi (IntOp.minsi (IntOp.minsi y
      (Scalar.select (IntOp.andi (FloatOps.cmpf .oeq (lane ld x 6) (vm2 ld x)) (IntOp.cmpi .ne (vi1 ld x) 6#32)) 6#32 16#32))
      (Scalar.select (IntOp.andi (FloatOps.cmpf .oeq (lane ld x 7) (vm2 ld x)) (IntOp.cmpi .ne (vi1 ld x) 7#32)) 7#32 16#32))
      (Scalar.select (IntOp.andi (FloatOps.cmpf .oeq (lane ld x 8) (vm2 ld x)) (IntOp.cmpi .ne (vi1 ld x) 8#32)) 8#32 16#32))
      (Scalar.select (IntOp.andi (FloatOps.cmpf .oeq (lane ld x 9) (vm2 ld x)) (IntOp.cmpi .ne (vi1 ld x) 9#32)) 9#32 16#32))
      (Scalar.select (IntOp.andi (FloatOps.cmpf .oeq (lane ld x 10) (vm2 ld x)) (IntOp.cmpi .ne (vi1 ld x) 10#32)) 10#32 16#32) := by
    rintro _ rfl; rfl
  rw [h _ (vi2a_apply ld x)]; rfl

/-- the indices of the largest other logits, -/
def vi2 : IVec S16 32 :=
  k1_pay34 (k1_pay15 (ld 12)) (k1_pay16 (ld 13)) (k1_pay17 (ld 14)) (k1_pay18 (ld 15)) (vi1 ld) (vm2 ld) (vi2b ld)
    (k1_pay33 (k1_pay14 (ld 11)) (vi1 ld) (vm2 ld)) 11#32 16#32

/-- A lane's second expert is its token's. -/
theorem vi2_apply (x : S16.Idx) : vi2 ld x = Router.i2 neg (lane ld x) := by
  have h : ∀ y, vi2b ld x = y → vi2 ld x = IntOp.minsi (IntOp.minsi (IntOp.minsi (IntOp.minsi (IntOp.minsi y
      (Scalar.select (IntOp.andi (FloatOps.cmpf .oeq (lane ld x 11) (vm2 ld x)) (IntOp.cmpi .ne (vi1 ld x) 11#32)) 11#32 16#32))
      (Scalar.select (IntOp.andi (FloatOps.cmpf .oeq (lane ld x 12) (vm2 ld x)) (IntOp.cmpi .ne (vi1 ld x) 12#32)) 12#32 16#32))
      (Scalar.select (IntOp.andi (FloatOps.cmpf .oeq (lane ld x 13) (vm2 ld x)) (IntOp.cmpi .ne (vi1 ld x) 13#32)) 13#32 16#32))
      (Scalar.select (IntOp.andi (FloatOps.cmpf .oeq (lane ld x 14) (vm2 ld x)) (IntOp.cmpi .ne (vi1 ld x) 14#32)) 14#32 16#32))
      (Scalar.select (IntOp.andi (FloatOps.cmpf .oeq (lane ld x 15) (vm2 ld x)) (IntOp.cmpi .ne (vi1 ld x) 15#32)) 15#32 16#32) := by
    rintro _ rfl; rfl
  rw [h _ (vi2b_apply ld x), vm2_apply, vi1_apply]; rfl

/-- the first weights -/
def vw1 : FVec F S16 .f32 := k1_pay36 (vm1 ld) (vm2 ld)

/-- A lane's first weight is its token's, -/
theorem vw1_apply (x : S16.Idx) : vw1 ld x = Router.w1 neg (lane ld x) := by
  have h : vw1 ld x = FloatOps.divf Router.one (FloatOps.addf Router.one (FloatOps.exp (FloatOps.subf (vm2 ld x) (vm1 ld x)))) := rfl
  rw [h, vm2_apply, vm1_apply]; rfl

/-- and the second. -/
def vw2 : FVec F S16 .f32 := k1_pay37 (vm1 ld) (vm2 ld)

/-- and so is its second. -/
theorem vw2_apply (x : S16.Idx) : vw2 ld x = Router.w2 neg (lane ld x) := by
  have h : vw2 ld x = FloatOps.mulf (FloatOps.exp (FloatOps.subf (vm2 ld x) (vm1 ld x))) (vw1 ld x) := rfl
  rw [h, vw1_apply, vm2_apply, vm1_apply]; rfl

end Cert.KernelIdeal.Routing

end
-- ==== Proof.Setup.lean ====
/-
  The program as the SparseCore launch theorem sees it, and the resource algebra of its proof: the handshakes' rounds, the logits
  pipeline's rounds, and the counters from which the vector subcores' local transfers take their tokens.
-/
module

public import proofs.«01_k».proof.Proof.Gen.KernelIdeal
public import proofs.«01_k».proof.Proof.Gen.KernelIdeal.Launch
public import proofs.«01_k».proof.Proof.Gen.KernelIdeal.Points
public import proofs.«01_k».proof.Proof.Lanes
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic

@[expose] public section

noncomputable section

namespace Cert.KernelIdeal.Routing

open Cert.KernelIdeal Cert.KernelIdeal.Gen

open Idealize.ShloMosaic hiding T
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-- The labels of the pipelined program, -/
abbrev ΛP : Labels := Pipeline.Sig Λ₀ (Fin 1) fun p => (pcfgs (F := F) p).Adm
/-- its SparseCore call, -/
abbrev K : SparseCore.Cfg τ sig (ΛP (F := F)) 1 := sc (F := F)
/-- its definitions, -/
abbrev D : Defs nD τ sig (Elt F) (ΛP (F := F)) := Pipeline.defs pcfgs defs₀
/-- no loop variants of the kernels' own, -/
abbrev 𝒱₀ : Variants := Variants.none
/-- as the pipeline's loops see them, -/
abbrev 𝒱 : Variants := 𝒱₀.lift
/-- and the initial variant. -/
abbrev v₀ : 𝒱.V := Sum.inl none

omit [FloatOps F] [Named F] in
theorem nSub_zero : (K (F := F)).nSub 0 = 16 := rfl
omit [FloatOps F] [Named F] in
theorem nCore_zero : (K (F := F)).nCore 0 = 2 := rfl

omit [FloatOps F] [Named F] in
/-- The launch semaphores are distinct and none is scoped, and no SparseCore's shared memory is a task's. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' component, -/
abbrev UH : Type := URounds (GSem nD τ sig) ℕ
/-- the pipeline's beside the counters, -/
abbrev UP : Type := UR sig nD τ × Counters
/-- and all three. -/
abbrev UU : Type := UH × UP

local notation "𝕄" => MT nD τ sig (HIx 1) (Elt F) ℕ UU ℕ

/-- The handshakes' component in the machine's algebra, -/
abbrev EH : Emb UH 𝕄 := embL
/-- and the pipeline's. -/
def EP : Emb (UR sig nD τ) 𝕄 := (Emb.inl : Emb (UR sig nD τ) UP).trans (embR : Emb UP 𝕄)

/-- The pipeline's rounds lie in the proof's own ghost state. -/
instance EP_landsIn : (EP : Emb (UR sig nD τ) 𝕄).LandsIn (upEmb : UEmb _ 𝕄) := by unfold EP embR; infer_instance

/-! ## The arrays, as locations of device `d` -/

/-- `x`, the first argument, -/
abbrev xLoc (d : Dev nD) : Loc nD τ sig := (T d).loc main_arg0
/-- `W`, the second, -/
abbrev wLoc (d : Dev nD) : Loc nD τ sig := (T d).loc main_arg1
/-- the transposed logits, -/
abbrev lLoc (d : Dev nD) : Loc nD τ sig := (T d).loc main_v0
/-- the transposed weights -/
abbrev aLoc (d : Dev nD) : Loc nD τ sig := (T d).loc main_v1_0
/-- and indices, -/
abbrev bLoc (d : Dev nD) : Loc nD τ sig := (T d).loc main_v1_1
/-- the weights, the first result, -/
abbrev rLoc (d : Dev nD) : Loc nD τ sig := (T d).loc main_v2
/-- and the indices, the second. -/
abbrev sLoc (d : Dev nD) : Loc nD τ sig := (T d).loc main_v3

omit [FloatOps F] [Named F] in
/-- The TensorCore's unscoped buffers are the seven arrays. -/
theorem unscopedBufs_eq (d : Dev nD) (W : (b : Ref sig .tc) → Buf (Elt F) ((d.tc : Thread nD τ).loc b)) :
    (unscopedBufs d W : sProp 𝕄)
      = iprop((xLoc d ↦{fullShare} W main_arg0) ∗ (wLoc d ↦{fullShare} W main_arg1) ∗ (lLoc d ↦{fullShare} W main_v0)
        ∗ (aLoc d ↦{fullShare} W main_v1_0) ∗ (bLoc d ↦{fullShare} W main_v1_1) ∗ (rLoc d ↦{fullShare} W main_v2) ∗ sLoc d ↦{fullShare} W main_v3) := by
  unfold unscopedBufs
  rw [show (Finset.univ.filter fun b : Ref sig .tc => ¬ b.isScoped) = {main_arg0, main_arg1, main_v0, main_v1_0, main_v1_1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

end Cert.KernelIdeal.Routing

end
-- ==== Proof.Region.lean ====
/-
  The TensorCore's region: one body run multiplies the weights by one block of tokens, and the pipeline over the sixteen blocks leaves
  the transposed logits. It is entered owing the SparseCores' start signals, which it neither pays nor waits for.
-/
module

public import proofs.«01_k».proof.Proof.Setup
public import Idealize.ShloMosaic.Lib.Pipeline.FrameBody
public import Idealize.ShloMosaic.Lib.Pipeline.RegionsLoop
public import Idealize.ShloMosaic.Lib.Pipeline.Value

@[expose] public section

noncomputable section

namespace Cert.KernelIdeal.Routing

open Cert.KernelIdeal Cert.KernelIdeal.Gen

open Idealize.ShloMosaic hiding T
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

/-! ## The body -/

/-- One body run: the two operands' staging buffers kept, the result's left at their product. -/
theorem logits_run (c : Dev nD) (i : grid0.Coords) (M0 : Memref sig .tc .vmem S16x2048 .f32) (h0 : M0.IsWhole) (M1 : Memref sig .tc .vmem S1024x2048 .f32) (h1 : M1.IsWhole)
    (M2 : Memref sig .tc .vmem S16x1024 .f32) (h2 : M2.IsWhole) (E : Set ℕ) (Q : PUnit → sProp 𝕄) (X0 : Vec F S16x2048 .f32) (X1 : Vec F S1024x2048 .f32) :
    iprop(owns (c : Thread nD τ) M0 fullShare X0 ∗ owns (c : Thread nD τ) M1 fullShare X1 ∗ (∃ X, owns (c : Thread nD τ) M2 fullShare X)
        ∗ (iprop(owns (c : Thread nD τ) M0 fullShare X0 ∗ owns (c : Thread nD τ) M1 fullShare X1 ∗ owns (c : Thread nD τ) M2 fullShare (k0_pay1 X0 X1)) -∗ Q ⟨⟩))
      ⊢ wp frame (wpE (defs₀ (F := F)) Variants.none c none) E (cc0__tc_logits_body i M0 h0 M1 h1 M2 h2) Q := by
  rw [cc0__tc_logits_body_eq_skeleton]
  unfold cc0__tc_logits_body_skel
  simp only [owns]
  iintro ⟨⟨%f0, %hf0, H0⟩, ⟨%f1, %hf1, H1⟩, ⟨%X2, %f2, -, H2⟩, Hk⟩
  sl_exec!
  sl_step
  iapply Hk
  isplitl [H0]
  · iexists f0; isplitr; (· ipureintro; exact hf0); iexact H0
  isplitl [H1]
  · iexists f1; isplitr; (· ipureintro; exact hf1); iexact H1
  iexists _; isplitr; swap; (· iexact H2)
  ipureintro
  sl_unfold_run_names
  have hz : (![0, 0] : Fin 2 → ℕ) = fun _ => 0 := funext fun a => by fin_cases a <;> rfl
  rw [View.read_writes_junk_eq_canon, View.readAt_eq_ld, View.readAt_eq_ld, View.ld_unit_zero hz, View.ld_unit_zero hz, View.canon_unit_zero hz, hf0, hf1]

/-! ## The proof data -/

variable (m : (ℓ : Loc nD τ sig) → Buf (Elt F) ℓ)

/-- The weights' block at point `t` as the fetch stages it -/
abbrev wBlk (d : Dev nD) (t : Fin cfg0.N) : Vec F S16x2048 .f32 := ((cfg0.win 0).blk t).view.read (Elt F) (m (wLoc d))
/-- and the tokens'. -/
abbrev xBlk (d : Dev nD) (t : Fin cfg0.N) : Vec F S1024x2048 .f32 := ((cfg0.win 1).blk t).view.read (Elt F) (m (xLoc d))

/-- The invariant between the pipeline's ends: the scoped buffers it does not stage. -/
abbrev Φc (d : Dev nD) : sProp 𝕄 := Pipeline.scopedRest (Ix := HIx 1) (Name := ℕ) (U := UU) (Lvl := ℕ) (Val := Elt F) spec0 d

/-- The pipeline's proof data on device `d`: the operands' blocks kept, the result's left at their product; throughout the TensorCore owes
    the SparseCores' start signals, and has recorded waits of the launch's lowest level at most. -/
def dat (d : Dev nD) : Dat τ (Elt F) (HIx 1) ℕ UU ℕ cfg0 d where
  A w := m ((d : Thread nD τ).loc (Pipeline.arrRef spec0 w))
  after w t := match w with
    | ⟨0, _⟩ => wBlk m d t
    | ⟨1, _⟩ => xBlk m d t
    | ⟨2, _⟩ => k0_pay1 (wBlk m d t) (xBlk m d t)
  Φ _ := Φc d
  q _ := fullShare
  owed _ := (K (F := F)).Otc d 0
  recorded _ := {p | (K (F := F)).lev (T d, p.1) p.2 ≤ 0}

/-- The body finds the weights' block, -/
theorem before0 (d : Dev nD) (t : Fin cfg0.N) (X) : (dat m d).before 0 t X = wBlk m d t :=
  (dat m d).before_in_eq_fetched 0 rfl (fun _ => rfl) (fun _ _ _ => rfl) (fun _ => rfl) t X
/-- and the tokens' block, as fetched. -/
theorem before1 (d : Dev nD) (t : Fin cfg0.N) (X) : (dat m d).before 1 t X = xBlk m d t :=
  (dat m d).before_in_eq_fetched 1 rfl (fun _ => rfl) (fun _ _ _ => rfl) (fun _ => rfl) t X

/-- At every point the body meets what the pipeline expects of it. -/
theorem body_obligation (d : Dev nD) : BodyObligation (dat m d) (defs₀ (F := F)) 𝒱₀ (none : HIx 1) Set.univ := fun t => by
  rw [bigSep_W0, bigSep_W0]
  rw [show (dat m d).Φ t.castSucc = Φc d from rfl, show (dat m d).Φ t.succ = Φc d from rfl,
    show (dat m d).owesAt none t.succ = (dat m d).owesAt none t.castSucc from rfl]
  simp only [before0, before1]
  iintro ⟨HΦ, Howes, ⟨%d0, H0⟩, ⟨%d1, H1⟩, ⟨%d2, H2⟩⟩
  iapply (logits_run d (grid0.coords t) (win0_0.stage (cfg0.slots t 0)) (hstage0_0 ((cfg0.slots t 0).cast nbuf0_0)) (win0_1.stage (cfg0.slots t 1))
    (hstage0_1 ((cfg0.slots t 1).cast nbuf0_1)) (win0_2.stage (cfg0.slots t 2)) (hstage0_2 ((cfg0.slots t 2).cast nbuf0_2)) Set.univ _ (wBlk m d t) (xBlk m d t))
  isplitl [H0]; · iexact H0
  isplitl [H1]; · iexact H1
  isplitl [H2]; · iexists _; iexact H2
  iintro ⟨H0, H1, H2⟩
  isplitl [HΦ]; · iexact HΦ
  isplitl [Howes]; · iexact Howes
  isplitl [H0]; · iexact H0
  isplitl [H1]; · iexact H1
  iexact H2

/-! ## The region over the thread state -/

/-- No table is prefetched: the pipeline's one admissible contents. -/
abbrev adm : (p : Fin 1) → (pcfgs (F := F) p).Adm := fun p => (cfgs p).toPCfg_adm
/-- The program's one pipeline, with its proof data. -/
abbrev pdats : (p : Fin 1) → (d : Dev nD) → Dat τ (Elt F) (HIx 1) ℕ UU ℕ (Pipeline.pin (pcfgs (F := F)) adm p) d := fun _ d => dat m d

/-- The transposed logits after the region. -/
abbrev LT (d : Dev nD) : Buf (Elt F) (lLoc d) := (dat m d).arrAt 2 cfg0.N

/-- The TensorCore's buffers at launch, -/
abbrev V0 (d : Dev nD) (b : Ref sig .tc) : Buf (Elt F) ((d : Thread nD τ).loc b) := m ((d : Thread nD τ).loc b)
/-- and after the region: the logits written, the rest as it was. -/
def V1 (d : Dev nD) : (b : Ref sig .tc) → Buf (Elt F) ((d : Thread nD τ).loc b) := Function.update (V0 m d) main_v0 (LT m d)

/-- After the region the logits' buffer holds the logits, -/
theorem V1_out (d : Dev nD) : V1 m d main_v0 = LT m d := Function.update_self _ _ _
/-- and every other buffer what it held. -/
theorem V1_ne (d : Dev nD) (b : Ref sig .tc) (h : b ≠ main_v0) : V1 m d b = V0 m d b := Function.update_of_ne h _ _

/-- Nothing is owed outside the handshakes' stages. -/
theorem Otc_none (d : Dev nD) (g : GSem nD τ sig) : (K (F := F)).Otc (N := 1) d 0 g none = 0 := by
  by_contra h
  exact absurd (SparseCore.Cfg.lev_of_Otc_pos (Nat.pos_of_ne_zero h)) (by simp)

/-- The core owes the start signals, its waits recorded at the launch's lowest level at most. -/
abbrev owing (d : Dev nD) : sProp 𝕄 :=
  iprop(∃ W, ⌜(K (F := F)).WBelow (T d) W 0⌝ ∗ owes (T d) ((K (F := F)).Otc d 0) W)

/-- The core's debt as the region's entry asks for it, -/
theorem owesAt_of_owing (d : Dev nD) (t : Fin (cfg0.N + 1)) : (owing d : sProp 𝕄) ⊢ (dat m d).owesAt none t := by
  unfold Pipeline.Dat.owesAt Pipeline.owesWithin
  iintro ⟨%W, %hW, HO⟩
  iexists W
  isplitr
  · ipureintro; exact fun p hp => Or.inl (hW p hp)
  iexact HO

/-- and as its exit hands it back. -/
theorem owing_of_owesAt (d : Dev nD) (t : Fin (cfg0.N + 1)) : (dat m d).owesAt none t ⊢ (owing d : sProp 𝕄) := by
  unfold Pipeline.Dat.owesAt Pipeline.owesWithin
  iintro ⟨%W, %hW, HO⟩
  iexists W
  isplitr
  · ipureintro
    intro p hp
    rcases hW hp with h | ⟨w, s, h⟩
    · exact h
    · rw [h]; exact le_refl 0
  iexact HO

set_option backward.isDefEq.respectTransparency.types false in
/-- The logits' region: from the seven arrays as launched to the same with the logits written. -/
def reg : Pipeline.RegionSeg (pcfgs (F := F)) adm (pdats m) (none : HIx 1) defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody d := (body_obligation m d).loose
  hwaits d := Pipeline.cellsWaits_intro (Pipeline.pin (pcfgs (F := F)) adm) (pdats m) none 0 d fun w s t =>
    (K (F := F)).mayWait_none _ (Otc_none d)
  pre d := iprop(unscopedBufs d (V0 m d) ∗ owing d)
  post d := iprop(unscopedBufs d (V1 m d) ∗ owing d)
  X _ := BI.emp
  Y _ := BI.emp
  Z d := Pipeline.unscopedRest (Ix := HIx 1) (Name := ℕ) (U := UU) (Lvl := ℕ) spec0 d (V0 m d)
  hentry d := by
    rw [Pipeline.ownSems0_none]
    have hsplit := Pipeline.arrays_of_unscopedBufs (p := 0) (pcfgs (F := F)) adm (pdats m) (launch0).win (launch0).arr_whole d
      ((pdats m 0 d).share_full fun _ => rfl) (V0 m d) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_of_owing m d 0); iexact HO
    isplitr; · iempintro
    iexact Hrest
  hin d := by
    rw [show (pdats m 0 d).Φ 0 = Φc d from rfl]
    iintro ⟨-, -, Hr⟩; iexact Hr
  hout d := by
    rw [Pipeline.ownSems0_none, show (pdats m 0 d).Φ (Fin.last _) = Φc d from rfl]
    iintro Hr
    isplitr; · iempintro
    isplitr; · iempintro
    iexact Hr
  hexit d := by
    have hjoin := Pipeline.unscopedBufs_of_arrays (p := 0) (pcfgs (F := F)) adm (Ix := HIx 1) (Name := ℕ) (U := UU) (Lvl := ℕ) (launch0).win
      (launch0).arr_whole d (pdats m) ((pdats m 0 d).share_full fun _ => rfl) (V0 m d) (V1 m d) ((pdats m 0 d).arrAt · cfg0.N)
      (fun w => by
        fin_cases w
        · exact ((pdats m 0 d).arrAt_in 0 rfl _).trans (V1_ne m d main_arg1 (by decide)).symm
        · exact ((pdats m 0 d).arrAt_in 1 rfl _).trans (V1_ne m d main_arg0 (by decide)).symm
        · exact (V1_out m d).symm)
      (fun b hb => V1_ne m d b fun h => hb (h ▸ Finset.mem_image.mpr ⟨2, Finset.mem_univ _, rfl⟩))
    iintro ⟨Ha, HO, -, Hrest⟩
    imodintro
    isplitl [Ha Hrest]
    · iapply hjoin; isplitl [Ha] <;> iassumption
    iapply (owing_of_owesAt m d (Fin.last _)); iexact HO

end Cert.KernelIdeal.Routing

end
-- ==== Proof.Tile.lean ====
/-
  One trip of a vector subcore's loop: sixteen tokens routed, with the values it stores.
-/
module

public import proofs.«01_k».proof.Proof.Region
public import proofs.«01_k».proof.Proof.Lanes
public import Idealize.ShloMosaic.Lib.Writes
public import Idealize.ShloMosaic.Lib.VecWindow
public import Idealize.ShloMosaic.Lib.Pointwise.Index

@[expose] public section

noncomputable section

namespace Cert.KernelIdeal.Routing

open Cert.KernelIdeal Cert.KernelIdeal.Gen

open Idealize.ShloMosaic hiding T
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "lV" => (Memref.whole Cert.KernelIdeal.main_v0_scv : Memref Cert.KernelIdeal.sig Kind.scVector Space.hbm Cert.KernelIdeal.S16x16384 EltTy.f32)
local notation "aV" => (Memref.whole Cert.KernelIdeal.main_v1_0_scv : Memref Cert.KernelIdeal.sig Kind.scVector Space.hbm Cert.KernelIdeal.S2x16384 EltTy.f32)
local notation "bV" => (Memref.whole Cert.KernelIdeal.main_v1_1_scv : Memref Cert.KernelIdeal.sig Kind.scVector Space.hbm Cert.KernelIdeal.S2x16384 EltTy.i32)
local notation "sL" => (Memref.whole Cert.KernelIdeal.cc1_scratch0 : Memref Cert.KernelIdeal.sig Kind.scVector Space.vmem Cert.KernelIdeal.S16x512 EltTy.f32)
local notation "sA" => (Memref.whole Cert.KernelIdeal.cc1_scratch1 : Memref Cert.KernelIdeal.sig Kind.scVector Space.vmem Cert.KernelIdeal.S2x512 EltTy.f32)
local notation "sB" => (Memref.whole Cert.KernelIdeal.cc1_scratch2 : Memref Cert.KernelIdeal.sig Kind.scVector Space.vmem Cert.KernelIdeal.S2x512 EltTy.i32)

/-- A task's core -/
abbrev cV (L : grid1.Coords) : Fin τ.nSC := (L 0).castLE hcore1
/-- and its subcore. -/
abbrev jV (L : grid1.Coords) : Fin τ.nSub := (L 1).castLE hsub1

/-! ### The routing of a sixteen-row array, column by column -/

/-- A token's logits: one column of a sixteen-row array, -/
def col {N : ℕ} (X : (⟨2, ![16, N]⟩ : Shape).Idx → F .f32) (n : Fin N) : ℕ → F .f32 :=
  fun r => X (ix2 ⟨r % 16, Nat.mod_lt _ (by decide)⟩ n)

/-- its first and second weight -/
def weight (l : ℕ → F .f32) (r : ℕ) : F .f32 := if r = 0 then Router.w1 neg l else Router.w2 neg l

/-- and their experts. -/
def index (l : ℕ → F .f32) (r : ℕ) : BitVec 32 := if r = 0 then Router.i1 l else Router.i2 neg l

/-- The two rows of weights of all columns -/
def weights {N : ℕ} (X : (⟨2, ![16, N]⟩ : Shape).Idx → F .f32) (y : (⟨2, ![2, N]⟩ : Shape).Idx) : F .f32 := weight (col X (y 1)) (y 0).val

/-- and the two rows of experts. -/
def indices {N : ℕ} (X : (⟨2, ![16, N]⟩ : Shape).Idx → F .f32) (y : (⟨2, ![2, N]⟩ : Shape).Idx) : BitVec 32 := index (col X (y 1)) (y 0).val

/-! ### One trip -/

/-- A trip's number is below thirty-two. -/
theorem trips_le (k : Fin k1_t1_loop.trips) : k.val < 32 := by
  have h : k1_t1_loop.trips = 32 := by decide +kernel
  have := k.isLt; omega

/-- The sixteen rows a trip loads: sixteen columns of the block. -/
def rowsAt (g : S16x512.Idx → F .f32) (k : Fin k1_t1_loop.trips) : ℕ → Vec F S1x16 .f32 :=
  fun n x => g (ix2 ⟨n % 16, Nat.mod_lt _ (by decide)⟩ ⟨16 * k.val + (x 1).val, by
    have := trips_le k; have : (x 1).val < 16 := (x 1).isLt; omega⟩)

/-- A load at row `n` and the trip's columns reads that row. -/
theorem read_row (g : S16x512.Idx → F .f32) (k : Fin k1_t1_loop.trips) (off : Fin 2 → ℕ) (inb : ∀ a, off a + S1x16.size a ≤ S16x512.size a)
    (n : ℕ) (hn : n < 16) (h : off = ![n, 16 * k.val]) :
    View.readAt (Elt F) (sL).view (Rect.unit (s := S16x512) off S1x16.size inb).toLoadRect g = rowsAt g k n := by
  subst h
  funext x
  refine congrArg g (funext fun a => Fin.ext ?_)
  have h0 : (x 0).val = 0 := by have : (x 0).val < 1 := (x 0).isLt; omega
  match a with
  | ⟨0, _⟩ => show n + 1 * (x 0).val = n % 16; rw [h0, Nat.mod_eq_of_lt hn, Nat.mul_zero, Nat.add_zero]
  | ⟨1, _⟩ => show 16 * k.val + 1 * (x 1).val = 16 * k.val + (x 1).val; omega

/-- A lane of the loaded rows is one column of the block. -/
theorem lane_rows (g : S16x512.Idx → F .f32) (k : Fin k1_t1_loop.trips) (x : S16.Idx) (n : Fin 512) (h : n.val = 16 * k.val + (x 0).val) :
    lane (rowsAt g k) x = col g n := by
  funext r
  show shapeCast S16 (rowsAt g k r) shapeCasts_S1x16_S16 x = _
  refine (shapeCast_dropUnit_apply (![16] : Fin 1 → ℕ) (rowsAt g k r) shapeCasts_S1x16_S16 x).trans ?_
  exact congrArg (fun q => g (ix2 _ q)) (Fin.ext h.symm)

/-- Whether a place lies in the trip's columns. -/
abbrev Here (k : Fin k1_t1_loop.trips) (y : S2x512.Idx) : Prop := 16 * k.val ≤ (y 1).val ∧ (y 1).val < 16 * k.val + 16

/-- Two stores of sixteen lanes, one to each row at the trip's columns, leave in these the values stored and elsewhere what was there. -/
theorem two_rows {e : EltTy} (M : Memref sig Kind.scVector Space.vmem S2x512 e) (f : M.view.ty.Contents (Elt F)) (k : Fin k1_t1_loop.trips) (o0 o1 : Fin 2 → ℕ)
    (b0 : ∀ a, o0 a + S1x16.size a ≤ S2x512.size a) (b1 : ∀ a, o1 a + S1x16.size a ≤ S2x512.size a)
    (h0 : o0 = ![0, 16 * k.val]) (h1 : o1 = ![1, 16 * k.val]) (w0 w1 : S16.Idx → Elt F e) (G : S2x512.Idx → Elt F e)
    (hG0 : ∀ (x : S16.Idx) (y : S2x512.Idx), (y 0).val = 0 → (y 1).val = 16 * k.val + (x 0).val → w0 x = G y)
    (hG1 : ∀ (x : S16.Idx) (y : S2x512.Idx), (y 0).val = 1 → (y 1).val = 16 * k.val + (x 0).val → w1 x = G y) (y : S2x512.Idx) :
    M.view.read (Elt F) (M.view.writes (Elt F) f
        [⟨Rect.unit (s := S2x512) o1 S1x16.size b1, shapeCast S1x16 w1 shapeCasts_S16_S1x16⟩,
         ⟨Rect.unit (s := S2x512) o0 S1x16.size b0, shapeCast S1x16 w0 shapeCasts_S16_S1x16⟩]) y
      = if Here k y then G y else M.view.read (Elt F) f y := by
  subst h0 h1
  have hy : (y 0).val < 2 := (y 0).isLt
  split_ifs with h
  · refine View.read_writes_apply_of_pieces M.view f G _ ?_ y ?_
    · intro p hp x
      rcases List.mem_cons.mp hp with rfl | hp
      · refine (shapeCast_addUnit_apply (![16] : Fin 1 → ℕ) w1 shapeCasts_S16_S1x16 x).trans (hG1 _ _ ?_ ?_)
        · show 1 + 1 * (x 0).val = 1
          have : (x 0).val < 1 := (x 0).isLt
          omega
        · show 16 * k.val + 1 * (x 1).val = 16 * k.val + (x 1).val
          omega
      · obtain rfl := List.mem_singleton.mp hp
        refine (shapeCast_addUnit_apply (![16] : Fin 1 → ℕ) w0 shapeCasts_S16_S1x16 x).trans (hG0 _ _ ?_ ?_)
        · show 0 + 1 * (x 0).val = 0
          have : (x 0).val < 1 := (x 0).isLt
          omega
        · show 16 * k.val + 1 * (x 1).val = 16 * k.val + (x 1).val
          omega
    · by_cases h0 : (y 0).val = 0
      · refine ⟨_, List.mem_cons_of_mem _ List.mem_cons_self, (Rect.mem_set_unit (inb := b0)).mpr fun a => ?_⟩
        match a with
        | ⟨0, _⟩ => show 0 ≤ (y 0).val ∧ (y 0).val < 0 + 1; omega
        | ⟨1, _⟩ => exact h
      · refine ⟨_, List.mem_cons_self, (Rect.mem_set_unit (inb := b1)).mpr fun a => ?_⟩
        match a with
        | ⟨0, _⟩ => show 1 ≤ (y 0).val ∧ (y 0).val < 1 + 1; omega
        | ⟨1, _⟩ => exact h
  · refine View.read_writes_apply_of_forall_not_mem M.view f y _ fun p hp hm => h ?_
    rcases List.mem_cons.mp hp with rfl | hp
    · exact (Rect.mem_set_unit (inb := b1)).mp hm 1
    · obtain rfl := List.mem_singleton.mp hp
      exact (Rect.mem_set_unit (inb := b0)).mp hm 1

section Trip

variable (d : Dev nD) (L : grid1.Coords)

/-- The task's copy of its block of the logits, -/
def holdL (g : Buf (Elt F) ((V d (cV L) (jV L)).loc cc1_scratch0)) : sProp 𝕄 := (sL).view.loc (V d (cV L) (jV L)) ↦{fullShare} g
/-- its weights -/
def holdA (a : Buf (Elt F) ((V d (cV L) (jV L)).loc cc1_scratch1)) : sProp 𝕄 := (sA).view.loc (V d (cV L) (jV L)) ↦{fullShare} a
/-- and its experts. -/
def holdB (b : Buf (Elt F) ((V d (cV L) (jV L)).loc cc1_scratch2)) : sProp 𝕄 := (sB).view.loc (V d (cV L) (jV L)) ↦{fullShare} b

/-- What the loop holds before trip `k`: the block of the logits, and of the weights and experts those of the columns routed so far. -/
def inv (g : S16x512.Idx → F .f32) (k : ℕ) (_ : Unit) : sProp 𝕄 :=
  iprop(holdL d L g ∗ (∃ a : S2x512.Idx → F .f32, ⌜∀ y, (y 1).val < 16 * k → a y = weights g y⌝ ∗ holdA d L a) ∗
    (∃ b : S2x512.Idx → BitVec 32, ⌜∀ y, (y 1).val < 16 * k → b y = indices g y⌝ ∗ holdB d L b))

omit [FloatOps F] [Named F] in
/-- A trip's columns extend the columns routed so far. -/
theorem extend {α : Type} (k : Fin k1_t1_loop.trips) (G a a' : S2x512.Idx → α) (ha : ∀ y, (y 1).val < 16 * k.val → a y = G y)
    (ha' : ∀ y, a' y = if Here k y then G y else a y) (y : S2x512.Idx) (hy : (y 1).val < 16 * (k.val + 1)) : a' y = G y := by
  rw [ha']
  split_ifs with h
  · rfl
  · exact ha y (by by_contra hn; exact h ⟨by omega, by omega⟩)

set_option maxHeartbeats 2000000 in
/-- One trip of the loop: it routes the sixteen tokens of its columns, and leaves the other columns as they were. -/
theorem trip (k : Fin k1_t1_loop.trips) (g : S16x512.Idx → F .f32) (u : Unit) :
    inv d L g k.val u
      ⊢ wp frame (wpE (defs₀ (F := F)) 𝒱₀ (V d (cV L) (jV L)) none) Set.univ
          (k1_t1_body L lV (Memref.isWhole_whole _) aV (Memref.isWhole_whole _) bV (Memref.isWhole_whole _)
            sL (Memref.isWhole_whole _) sA (Memref.isWhole_whole _) sB (Memref.isWhole_whole _) cc1_scoped0 cc1_scoped1 cc1_scoped2 k u)
          fun u' => inv d L g (k.val + 1) u' := by
  unfold k1_t1_body
  simp only [k1_part1_eq_skeleton, k1_part2_eq_skeleton, k1_part3_eq_skeleton, k1_part4_eq_skeleton, k1_part5_eq_skeleton, k1_part6_eq_skeleton,
    k1_part7_eq_skeleton, k1_part8_eq_skeleton]
  unfold k1_part1_skel k1_part2_skel k1_part3_skel k1_part4_skel k1_part5_skel k1_part6_skel k1_part7_skel k1_part8_skel
  simp only [bind_assoc, pure_bind]
  unfold inv holdL holdA holdB
  iintro ⟨Hg, ⟨%a, %ha, Ha⟩, %b, %hb, Hb⟩
  sl_exec!
  sl_step
  isplitl [Hg]; · iexact Hg
  isplitl [Ha]
  · iexists _; isplitr; swap; · iexact Ha
    ipureintro
    refine extend k _ a _ ha fun y => ?_
    sl_unfold_run_names
    rw [read_row g k _ _ 0 (by decide) (k1_off2_eq k), read_row g k _ _ 1 (by decide) (k1_off3_eq k), read_row g k _ _ 2 (by decide) (k1_off4_eq k),
      read_row g k _ _ 3 (by decide) (k1_off5_eq k), read_row g k _ _ 4 (by decide) (k1_off6_eq k), read_row g k _ _ 5 (by decide) (k1_off7_eq k),
      read_row g k _ _ 6 (by decide) (k1_off8_eq k), read_row g k _ _ 7 (by decide) (k1_off9_eq k), read_row g k _ _ 8 (by decide) (k1_off10_eq k),
      read_row g k _ _ 9 (by decide) (k1_off11_eq k), read_row g k _ _ 10 (by decide) (k1_off12_eq k), read_row g k _ _ 11 (by decide) (k1_off13_eq k),
      read_row g k _ _ 12 (by decide) (k1_off14_eq k), read_row g k _ _ 13 (by decide) (k1_off15_eq k), read_row g k _ _ 14 (by decide) (k1_off16_eq k),
      read_row g k _ _ 15 (by decide) (k1_off17_eq k)]
    exact two_rows (sA) a k _ _ _ _ (k1_off18_eq k) (k1_off19_eq k) (vw1 (rowsAt g k)) (vw2 (rowsAt g k)) (weights g)
      (fun x y h0 h1 => by rw [vw1_apply, lane_rows g k x (y 1) h1]; unfold weights weight; rw [h0, if_pos rfl])
      (fun x y h0 h1 => by rw [vw2_apply, lane_rows g k x (y 1) h1]; unfold weights weight; rw [h0, if_neg Nat.one_ne_zero]) y
  · iexists _; isplitr; swap; · iexact Hb
    ipureintro
    refine extend k _ b _ hb fun y => ?_
    sl_unfold_run_names
    rw [read_row g k _ _ 0 (by decide) (k1_off2_eq k), read_row g k _ _ 1 (by decide) (k1_off3_eq k), read_row g k _ _ 2 (by decide) (k1_off4_eq k),
      read_row g k _ _ 3 (by decide) (k1_off5_eq k), read_row g k _ _ 4 (by decide) (k1_off6_eq k), read_row g k _ _ 5 (by decide) (k1_off7_eq k),
      read_row g k _ _ 6 (by decide) (k1_off8_eq k), read_row g k _ _ 7 (by decide) (k1_off9_eq k), read_row g k _ _ 8 (by decide) (k1_off10_eq k),
      read_row g k _ _ 9 (by decide) (k1_off11_eq k), read_row g k _ _ 10 (by decide) (k1_off12_eq k), read_row g k _ _ 11 (by decide) (k1_off13_eq k),
      read_row g k _ _ 12 (by decide) (k1_off14_eq k), read_row g k _ _ 13 (by decide) (k1_off15_eq k), read_row g k _ _ 14 (by decide) (k1_off16_eq k),
      read_row g k _ _ 15 (by decide) (k1_off17_eq k)]
    exact two_rows (F := F) (sB) b k _ _ _ _ (k1_off18_eq k) (k1_off19_eq k) (vi1 (rowsAt g k)) (vi2 (rowsAt g k)) (indices g)
      (fun x y h0 h1 => by rw [vi1_apply, lane_rows g k x (y 1) h1]; unfold indices index; rw [h0, if_pos rfl])
      (fun x y h0 h1 => by rw [vi2_apply, lane_rows g k x (y 1) h1]; unfold indices index; rw [h0, if_neg Nat.one_ne_zero]) y

end Trip

end Cert.KernelIdeal.Routing

end
-- ==== Proof.Task.lean ====
/-
  One vector subcore's task: the fetch of its block of the transposed logits, the loop, and the two write-backs, with what they leave
  in the task's blocks of the two results; and what the launch's handshakes carry.
-/
module

public import proofs.«01_k».proof.Proof.Tile
public import proofs.«01_k».proof.Proof.Region

@[expose] public section

noncomputable section

namespace Cert.KernelIdeal.Routing

open Cert.KernelIdeal Cert.KernelIdeal.Gen

open Idealize.ShloMosaic hiding T
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "lV" => (Memref.whole Cert.KernelIdeal.main_v0_scv : Memref Cert.KernelIdeal.sig Kind.scVector Space.hbm Cert.KernelIdeal.S16x16384 EltTy.f32)
local notation "aV" => (Memref.whole Cert.KernelIdeal.main_v1_0_scv : Memref Cert.KernelIdeal.sig Kind.scVector Space.hbm Cert.KernelIdeal.S2x16384 EltTy.f32)
local notation "bV" => (Memref.whole Cert.KernelIdeal.main_v1_1_scv : Memref Cert.KernelIdeal.sig Kind.scVector Space.hbm Cert.KernelIdeal.S2x16384 EltTy.i32)
local notation "sL" => (Memref.whole Cert.KernelIdeal.cc1_scratch0 : Memref Cert.KernelIdeal.sig Kind.scVector Space.vmem Cert.KernelIdeal.S16x512 EltTy.f32)
local notation "sA" => (Memref.whole Cert.KernelIdeal.cc1_scratch1 : Memref Cert.KernelIdeal.sig Kind.scVector Space.vmem Cert.KernelIdeal.S2x512 EltTy.f32)
local notation "sB" => (Memref.whole Cert.KernelIdeal.cc1_scratch2 : Memref Cert.KernelIdeal.sig Kind.scVector Space.vmem Cert.KernelIdeal.S2x512 EltTy.i32)

/-! ### The blocks of 512 tokens -/

/-- The columns of the logits divide into thirty-two blocks, -/
theorem hdivL : 32 ∣ S16x16384.size 1 := ⟨512, rfl⟩
/-- and so do those of the results. -/
theorem hdivR : 32 ∣ S2x16384.size 1 := ⟨512, rfl⟩
/-- Block `j` of the transposed logits, -/
abbrev blkL (j : Fin 32) : Rect S16x16384 := Rect.part (s := S16x16384) (a₀ := 1) hdivL j
/-- and of the transposed weights and experts. -/
abbrev blkR (j : Fin 32) : Rect S2x16384 := Rect.part (s := S2x16384) (a₀ := 1) hdivR j

/-- The block subcore `s` of SparseCore `c` routes. -/
def blk (c : Fin 2) (s : Fin 16) : Fin 32 := ⟨2 * s.val + c.val, by omega⟩

variable (d : Dev nD)

/-- Block `j` of the transposed logits, -/
abbrev lBlk (X : Buf (Elt F) (lLoc d)) (j : Fin 32) : sProp 𝕄 := lLoc d ↦[(blkL j).set]{fullShare} X
/-- of the transposed weights, -/
abbrev aBlk (X : Buf (Elt F) (aLoc d)) (j : Fin 32) : sProp 𝕄 := aLoc d ↦[(blkR j).set]{fullShare} X
/-- and of the transposed experts. -/
abbrev bBlk (X : Buf (Elt F) (bLoc d)) (j : Fin 32) : sProp 𝕄 := bLoc d ↦[(blkR j).set]{fullShare} X

section Task

variable (L : grid1.Coords)

/-- The grid has two cores -/
theorem bound_zero : grid1.bound 0 = 2 := rfl
/-- of sixteen subcores. -/
theorem bound_one : grid1.bound 1 = 16 := rfl
/-- A task's block. -/
abbrev jL (L : grid1.Coords) : Fin 32 := blk (Fin.cast bound_zero (L 0)) (Fin.cast bound_one (L 1))

/-- The blocks as the task addresses them. -/
abbrev rectL (L : grid1.Coords) : Rect S16x16384 := Rect.unit (s := S16x16384) (k1_off1 L) S16x512.size (k1_off1_inb L)
/-- The rectangle of a result that a task writes. -/
abbrev rectR (L : grid1.Coords) : Rect S2x16384 := Rect.unit (s := S2x16384) (k1_off20 L) S2x512.size (k1_off20_inb L)
/-- A task's slice of the logits, -/
abbrev lK (L : grid1.Coords) : Memref sig .scVector .hbm S16x512 .f32 := (lV).slice (rectL L) (fun _ => rfl)
/-- of the weights, -/
abbrev aK (L : grid1.Coords) : Memref sig .scVector .hbm S2x512 .f32 := (aV).slice (rectR L) (fun _ => rfl)
/-- and of the experts. -/
abbrev bK (L : grid1.Coords) : Memref sig .scVector .hbm S2x512 .i32 := (bV).slice (rectR L) (fun _ => rfl)

/-- The rectangle that a task reads is its block, -/
theorem rectL_eq : rectL L = blkL (jL L) := by
  unfold rectL blkL Rect.part Rect.block
  congr 1 <;> funext a
  · rw [k1_off1_eq]
    match a with
    | 0 => simp [Shape.partIx, Shape.partSize]
    | 1 => simp [Shape.partIx, Shape.partSize, blk, jL]; show _ = (2 * (L 1).val + (L 0).val) * 512; omega
  · match a with
    | 0 => simp [Shape.partSize]
    | 1 => simp [Shape.partSize]

/-- and the one that it writes is its block. -/
theorem rectR_eq : rectR L = blkR (jL L) := by
  unfold rectR blkR Rect.part Rect.block
  congr 1 <;> funext a
  · rw [k1_off20_eq]
    match a with
    | 0 => simp [Shape.partIx, Shape.partSize]
    | 1 => simp [Shape.partIx, Shape.partSize, blk, jL]; show _ = (2 * (L 1).val + (L 0).val) * 512; omega
  · match a with
    | 0 => simp [Shape.partSize]
    | 1 => simp [Shape.partSize]

/-- A task's slice of the logits covers its block, -/
theorem set_lK : (lK L).view.set = (blkL (jL L)).set := by
  rw [← rectL_eq]; exact (View.set_slice _ _).trans Finset.map_refl
/-- that of the weights does, -/
theorem set_aK : (aK L).view.set = (blkR (jL L)).set := by
  rw [← rectR_eq]; exact (View.set_slice _ _).trans Finset.map_refl
/-- and that of the experts does. -/
theorem set_bK : (bK L).view.set = (blkR (jL L)).set := by
  rw [← rectR_eq]; exact (View.set_slice _ _).trans Finset.map_refl

omit [FloatOps F] [Named F] in
theorem pts_lK (f : Buf (Elt F) (lLoc d)) :
    ((lK L).view.loc (V d (cV L) (jV L)) ↦[(lK L).view.set]{fullShare} f : sProp 𝕄) = lBlk d f (jL L) := by rw [set_lK]
omit [FloatOps F] [Named F] in
theorem pts_aK (f : Buf (Elt F) (aLoc d)) :
    ((aK L).view.loc (V d (cV L) (jV L)) ↦[(aK L).view.set]{fullShare} f : sProp 𝕄) = aBlk d f (jL L) := by rw [set_aK]
omit [FloatOps F] [Named F] in
theorem pts_bK (f : Buf (Elt F) (bLoc d)) :
    ((bK L).view.loc (V d (cV L) (jV L)) ↦[(bK L).view.set]{fullShare} f : sProp 𝕄) = bBlk d f (jL L) := by rw [set_bK]
omit [FloatOps F] [Named F] in
theorem pts_sL (f : Buf (Elt F) ((V d (cV L) (jV L)).loc cc1_scratch0)) :
    ((sL).view.loc (V d (cV L) (jV L)) ↦{fullShare} f : sProp 𝕄) = (V d (cV L) (jV L)).loc cc1_scratch0 ↦{fullShare} f := rfl
omit [FloatOps F] [Named F] in
theorem pts_sA (f : Buf (Elt F) ((V d (cV L) (jV L)).loc cc1_scratch1)) :
    ((sA).view.loc (V d (cV L) (jV L)) ↦{fullShare} f : sProp 𝕄) = (V d (cV L) (jV L)).loc cc1_scratch1 ↦{fullShare} f := rfl
omit [FloatOps F] [Named F] in
theorem pts_sB (f : Buf (Elt F) ((V d (cV L) (jV L)).loc cc1_scratch2)) :
    ((sB).view.loc (V d (cV L) (jV L)) ↦{fullShare} f : sProp 𝕄) = (V d (cV L) (jV L)).loc cc1_scratch2 ↦{fullShare} f := rfl

/-- The task's three semaphores: the fetch's and the two write-backs'. -/
abbrev cell0 (d : Dev nD) (c : Fin τ.nSC) (i : Fin τ.nSub) : GSem nD τ sig := (V d c i, .dma cc1_scoped0.sem)
/-- The semaphore of a task's second copy, -/
abbrev cell1 (d : Dev nD) (c : Fin τ.nSC) (i : Fin τ.nSub) : GSem nD τ sig := (V d c i, .dma cc1_scoped1.sem)
/-- and that of its third. -/
abbrev cell2 (d : Dev nD) (c : Fin τ.nSC) (i : Fin τ.nSub) : GSem nD τ sig := (V d c i, .dma cc1_scoped2.sem)

omit [FloatOps F] [Named F] in
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0
          ∗ bigSep ((((ownCells (V d (cV L) (jV L))).erase (cell0 d (cV L) (jV L))).erase (cell1 d (cV L) (jV L))).erase (cell2 d (cV L) (jV L)))
              fun g => semVal g 0) := by
  unfold SparseCore.Cfg.ownSems0
  rw [SparseCore.bigSep_erase' ((mem_ownCells (g := cell0 d (cV L) (jV L))).mpr ⟨rfl, by
      show (SemLoc.dma cc1_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc1_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc1_scoped2.sem : SemLoc sig).isScoped .scVector = true; decide⟩⟩⟩)]

omit [FloatOps F] [Named F] in
/-- The task's own buffers: its three scratches, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
      SparseCore.Cfg.mem_ownRefs_of_owner (p := Proc.scVector (cV L) (jV L)) (b := (Proc.scVector (cV L) (jV L)).devRef cc1_scratch2) rfl⟩⟩)]

/-- A column of the fetched block is a column of the whole array. -/
theorem col_read (X : S16x16384.Idx → F .f32) (x : S2x512.Idx) :
    col ((lK L).view.read (Elt F) X) (x 1) = col X ((rectR L).emb x 1) := by
  funext r
  refine congrArg X (funext fun a => Fin.ext ?_)
  match a with
  | ⟨0, _⟩ =>
    show k1_off1 L 0 + 1 * (r % 16) = r % 16
    rw [k1_off1_eq]; show 0 + 1 * (r % 16) = r % 16; omega
  | ⟨1, _⟩ =>
    show k1_off1 L 1 + 1 * (x 1).val = k1_off20 L 1 + 1 * (x 1).val
    rw [k1_off1_eq, k1_off20_eq]

/-- A block's row is the whole array's. -/
theorem row_emb (x : S2x512.Idx) : ((rectR L).emb x 0).val = (x 0).val := by
  show k1_off20 L 0 + 1 * (x 0).val = (x 0).val
  rw [k1_off20_eq]; show 0 + 1 * (x 0).val = (x 0).val; omega

/-- The weights of the fetched block are the block of the weights -/
theorem weights_read (X : S16x16384.Idx → F .f32) (x : S2x512.Idx) :
    weights ((lK L).view.read (Elt F) X) x = weights (N := 16384) X ((rectR L).emb x) := by
  unfold weights; rw [row_emb]; exact congrArg (fun l => weight l _) (col_read L X x)

/-- and the experts of the fetched block the block of the experts. -/
theorem indices_read (X : S16x16384.Idx → F .f32) (x : S2x512.Idx) :
    indices ((lK L).view.read (Elt F) X) x = indices (N := 16384) X ((rectR L).emb x) := by
  unfold indices; rw [row_emb]; exact congrArg (fun l => index l _) (col_read L X x)

/-- The loop makes thirty-two trips. -/
theorem trips_eq : Scf.trips k1_t1_loop.lb k1_t1_loop.ub k1_t1_loop.st = 32 := by decide +kernel

omit [FloatOps F] [Named F] in
/-- A write of a whole view, at one of the view's elements. -/
theorem writes_whole_emb {κ : Kind} {sp : Space} {s : Shape} {e : EltTy} (v : View sig κ sp s e) (f : v.ty.Contents (Elt F)) (w : s.Idx → Elt F e)
    (x : s.Idx) : v.writes (Elt F) f [⟨Rect.whole s, w⟩] (v.emb x) = _root_.cast (congrArg (Elt F) v.elt_eq.symm) (w x) := by
  have h := View.read_writes_cons_hit (Val := Elt F) v f (Rect.whole s) w [] x x (Rect.emb_whole_apply s x)
  rw [View.read_apply] at h
  rw [← h, cast_cast, cast_eq]

/-- What the write-back of the weights leaves in the task's block -/
theorem landedA (X : S16x16384.Idx → F .f32) (fa : S2x16384.Idx → F .f32) (a : S2x512.Idx → F .f32)
    (ha : ∀ y, a y = weights ((lK L).view.read (Elt F) X) y) (i : S2x16384.Idx) (hi : i ∈ (aK L).view.set) :
    (aK L).view.writes (Elt F) fa [⟨Rect.whole S2x512, a⟩] i = weights (N := 16384) X i := by
  obtain ⟨x, -, rfl⟩ := Finset.mem_map.mp hi
  exact (writes_whole_emb (aK L).view fa a x).trans ((ha x).trans (weights_read L X x))

/-- and that of the experts. -/
theorem landedB (X : S16x16384.Idx → F .f32) (fb : S2x16384.Idx → BitVec 32) (b : S2x512.Idx → BitVec 32)
    (hb : ∀ y, b y = indices ((lK L).view.read (Elt F) X) y) (i : S2x16384.Idx) (hi : i ∈ (bK L).view.set) :
    (bK L).view.writes (Elt F) fb [⟨Rect.whole S2x512, b⟩] i = indices (N := 16384) X i := by
  obtain ⟨x, -, rfl⟩ := Finset.mem_map.mp hi
  exact (writes_whole_emb (bK L).view fb b x).trans ((hb x).trans (indices_read L X x))

/-- The task on vector subcore `L 1` of SparseCore `L 0`: from its block of the transposed logits `X` it leaves in its blocks of the
    results the weights and experts of `X`. -/
theorem task_body (X : Buf (Elt F) (lLoc d)) (fa : Buf (Elt F) (aLoc d)) (fb : Buf (Elt F) (bLoc d)) (hF : (K (F := F)).Facts)
    (O : CellTallies nD τ sig (HIx 1)) (W : Waits sig (HIx 1)) (hO : ∀ g, O g none = 0) :
    iprop(levAts (K (F := F)).L (K (F := F)).lev ∗ emp
        ∗ (lBlk d X (jL L) ∗ aBlk d fa (jL L) ∗ bBlk d fb (jL L))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__router_body L lV (Memref.isWhole_whole _) aV (Memref.isWhole_whole _) bV (Memref.isWhole_whole _)
            sL (Memref.isWhole_whole _) sA (Memref.isWhole_whole _) sB (Memref.isWhole_whole _) cc1_scoped0 cc1_scoped1 cc1_scoped2)
          fun _ => iprop((lBlk d X (jL L) ∗ aBlk d (weights (F := F) (N := 16384) X) (jL L) ∗ bBlk d (indices (F := F) (N := 16384) X) (jL L))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  rw [cc1__router_body_eq_skeleton]; unfold cc1__router_body_skel
  iintro ⟨#Hlv, -, ⟨Hl, Ha, Hb⟩, ⟨⟨%f0, H0⟩, ⟨%f1, H1⟩, ⟨%f2, H2⟩, Hbufs⟩, ⟨Hc0, Hc1, Hc2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hl := (Entails.of_eq (pts_lK (F := F) d L _).symm) $$ Hl
  ihave Ha := (Entails.of_eq (pts_aK (F := F) d L _).symm) $$ Ha
  ihave Hb := (Entails.of_eq (pts_bK (F := F) d L _).symm) $$ Hb
  ihave H0 := (Entails.of_eq (pts_sL (F := F) d L _).symm) $$ H0
  ihave H1 := (Entails.of_eq (pts_sA (F := F) d L _).symm) $$ H1
  ihave H2 := (Entails.of_eq (pts_sB (F := F) d L _).symm) $$ H2
  sl_exec (disch := exact View.amount_pos _ _ (show 0 < S16x512.numel by decide))
  sl_for (inv d L (g := (lK L).view.read (Elt F) X)) $$ [H0 H1 H2]
  case region =>
    intro k u
    exact trip d L k _ u
  · unfold inv
    sl_unfold_run_names
    isplitl [H0]; · unfold holdL; rw [View.write_whole_univ]; iexact H0
    isplitl [H1]
    · iexists _; isplitr; swap; · unfold holdA; iexact H1
      ipureintro; intro y hy; exact absurd hy (by omega)
    · iexists _; isplitr; swap; · unfold holdB; iexact H2
      ipureintro; intro y hy; exact absurd hy (by omega)
  iintro %_ HI
  unfold inv holdL holdA holdB
  icases HI with ⟨H0, ⟨%a, %ha, H1⟩, %b, %hb, H2⟩
  sl_exec (disch := exact View.amount_pos _ _ (show 0 < S2x512.numel by decide))
  sl_step
  have hall : ∀ y : S2x512.Idx, (y 1).val < 16 * Scf.trips k1_t1_loop.lb k1_t1_loop.ub k1_t1_loop.st := fun y => by
    rw [trips_eq]; exact (y 1).isLt
  isplitl [Hl Ha Hb]
  · isplitl [Hl]; · iapply (Entails.of_eq (pts_lK (F := F) d L _)); iexact Hl
    isplitl [Ha]
    · iapply (Entails.of_eq (pts_aK (F := F) d L _))
      iapply (Entails.of_eq (pointsTo_congr (landedA L X fa a fun y => ha y (hall y)))); iexact Ha
    · iapply (Entails.of_eq (pts_bK (F := F) d L _))
      iapply (Entails.of_eq (pointsTo_congr (landedB L X fb b fun y => hb y (hall y)))); iexact Hb
  isplitl [H0 H1 H2 Hbufs]
  · isplitl [H0]; · iexists _; iexact H0
    isplitl [H1]; · iexists _; iexact H1
    isplitl [H2]; · iexists _; iexact H2
    iexact Hbufs
  isplitl [Hc0 Hc1 Hc2 Hsems]
  · isplitl [Hc0]; · iexact Hc0
    isplitl [Hc1]; · iexact Hc1
    isplitl [Hc2]; · iexact Hc2
    iexact Hsems
  iexists _; isplitr
  swap; · iexact HO
  ipureintro; intro p _
  rcases p.2 with _ | q
  · exact .inr (.inl rfl)
  · exact .inr (.inr (congrArg some (Subsingleton.elim q 0)))

end Task

end Cert.KernelIdeal.Routing

end
-- ==== Proof.Run.lean ====
/-
  The program's run: what the SparseCore call's handshakes carry, the launch element, @main on the TensorCore, and what the four
  arrays of the claim hold at the end.
-/
module

public import proofs.«01_k».proof.Proof.Task

@[expose] public section

noncomputable section

namespace Cert.KernelIdeal.Routing

open Cert.KernelIdeal Cert.KernelIdeal.Gen

open Idealize.ShloMosaic hiding T
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within unary_result)

variable {F : FTy → Type} [FloatOps F] [Named F]

local notation "𝕄" => MT nD τ sig (HIx 1) (Elt F) ℕ UU ℕ
variable (m : (ℓ : Loc nD τ sig) → Buf (Elt F) ℓ) (ρ : Dev nD → PrngReg)

/-! ## What the call carries -/

/-- The transposed weights, -/
abbrev WV (d : Dev nD) : Buf (Elt F) (aLoc d) := weights (F := F) (N := 16384) (LT m d)
/-- and the transposed experts. -/
abbrev IV (d : Dev nD) : Buf (Elt F) (bLoc d) := indices (F := F) (N := 16384) (LT m d)

/-- What the task of block `j` takes, -/
def goR (d : Dev nD) (j : Fin 32) : sProp 𝕄 := iprop(lBlk d (LT m d) j ∗ aBlk d (m (aLoc d)) j ∗ bBlk d (m (bLoc d)) j)
/-- and what it gives back. -/
def tdR (d : Dev nD) (j : Fin 32) : sProp 𝕄 := iprop(lBlk d (LT m d) j ∗ aBlk d (WV m d) j ∗ bBlk d (IV m d) j)

/-- The handshakes' payloads: each task its block, each SparseCore its sixteen tasks' blocks. -/
def P : (K (F := F)).Pay (nD := nD) (Val := Elt F) (Name := ℕ) (U := UU) where
  st q d c := match q with | 0 => bigSep Finset.univ fun i : Fin 16 => goR m d (blk (Fin.cast nCore_zero c) i)
  dn q d c := match q with | 0 => bigSep Finset.univ fun i : Fin 16 => tdR m d (blk (Fin.cast nCore_zero c) i)
  go q d c i := match q with | 0 => goR m d (blk (Fin.cast nCore_zero c) (Fin.cast nSub_zero i))
  td q d c i := match q with | 0 => tdR m d (blk (Fin.cast nCore_zero c) (Fin.cast nSub_zero i))
  x := fun _ _ => iprop(emp)

/-- What a task takes can be handed over, -/
instance goR_storable (d : Dev nD) (j : Fin 32) : BI.Storable (upEmb : UEmb _ 𝕄) (goR m d j) := by unfold goR; infer_instance
/-- so can what it gives back, -/
instance tdR_storable (d : Dev nD) (j : Fin 32) : BI.Storable (upEmb : UEmb _ 𝕄) (tdR m d j) := by unfold tdR; infer_instance

/-- and so can all that the handshakes carry. -/
instance P_storable : (P m).IsStorable where
  st q d c := match q with | 0 => (inferInstance : BI.Storable (upEmb : UEmb _ 𝕄) (bigSep Finset.univ fun i : Fin 16 => goR m d (blk (Fin.cast nCore_zero c) i)))
  dn q d c := match q with | 0 => (inferInstance : BI.Storable (upEmb : UEmb _ 𝕄) (bigSep Finset.univ fun i : Fin 16 => tdR m d (blk (Fin.cast nCore_zero c) i)))
  go q d c i := match q with | 0 => goR_storable m d (blk (Fin.cast nCore_zero c) (Fin.cast nSub_zero i))
  td q d c i := match q with | 0 => tdR_storable m d (blk (Fin.cast nCore_zero c) (Fin.cast nSub_zero i))

/-- A conjunction over the call's subcores is one over sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's blocks are its tasks'. -/
theorem vecSplit : (K (F := F)).VecSplit' (P m) 0 := by
  intro d c
  show (bigSep Finset.univ fun i : Fin 16 => goR m d (blk (Fin.cast nCore_zero c) i)) ⊢ |={Set.univ}=> iprop(
    (bigSep Finset.univ fun i : Fin ((K (F := F)).nSub 0) => goR m d (blk (Fin.cast nCore_zero c) (Fin.cast nSub_zero i)))
    ∗ ((bigSep Finset.univ fun i : Fin ((K (F := F)).nSub 0) => tdR m d (blk (Fin.cast nCore_zero c) (Fin.cast nSub_zero i)))
      -∗ bigSep Finset.univ fun i : Fin 16 => tdR m d (blk (Fin.cast nCore_zero c) i)))
  rw [bigSep_tasks (F := F) (fun i => goR m d (blk (Fin.cast nCore_zero c) i)), bigSep_tasks (F := F) (fun i => tdR m d (blk (Fin.cast nCore_zero c) i))]
  iintro H
  imodintro
  isplitl [H]; · iexact H
  iintro H; iexact H

/-! ## The tasks -/

/-- A vector subcore's coordinates in the grid. -/
def coordsV (c : Fin (grid1.bound 0)) (s : Fin (grid1.bound 1)) : grid1.Coords :=
  fun | 0 => c | 1 => s | ⟨_ + 2, h⟩ => absurd h (Nat.not_lt.2 (Nat.le_add_left _ _))

/-- The program that a vector subcore runs. -/
theorem defs₀_vector (c : Fin τ.nSC) (s : Fin τ.nSub) :
    defs₀ (F := F) (.scVector c s) 1 () = SparseCore.onTile hcore1 hsub1 (fun c s =>
      cc1__router_body (coordsV c s)
        (Memref.whole main_v0_scv) (Memref.isWhole_whole _) (Memref.whole main_v1_0_scv) (Memref.isWhole_whole _) (Memref.whole main_v1_1_scv) (Memref.isWhole_whole _)
        (Memref.whole cc1_scratch0) (Memref.isWhole_whole _) (Memref.whole cc1_scratch1) (Memref.isWhole_whole _) (Memref.whole cc1_scratch2) (Memref.isWhole_whole _)
        cc1_scoped0 cc1_scoped1 cc1_scoped2) ⟨⟩ c s := rfl

/-- Each task keeps the launch's obligation. -/
theorem tileObl : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact task_body d (coordsV ⟨_, hci.1⟩ ⟨_, hci.2⟩) (LT m d) (m (aLoc d)) (m (bLoc d)) facts O W hO

/-! ## The arrays, cut into the tasks' blocks -/

/-- The thirty-two blocks, by SparseCore and subcore. -/
def blkEquiv : Fin 2 × Fin 16 ≃ Fin 32 :=
  Equiv.ofBijective (fun p => blk p.1 p.2) ((Fintype.bijective_iff_injective_and_card _).2 ⟨fun p q h => by
    have h' : 2 * p.2.val + p.1.val = 2 * q.2.val + q.1.val := congrArg Fin.val h
    exact Prod.ext (Fin.ext (by omega)) (Fin.ext (by omega)), rfl⟩)

/-- A conjunction over the blocks is one over cores and subcores. -/
theorem bigSep_blk (Φ : Fin 32 → sProp 𝕄) :
    (bigSep Finset.univ fun c : Fin 2 => bigSep Finset.univ fun i : Fin 16 => Φ (blk c i)) = bigSep Finset.univ Φ :=
  ((bigSep_univ_equiv blkEquiv Φ).trans (bigSep_univ_prod fun p : Fin 2 × Fin 16 => Φ (blkEquiv p))).symm

/-- The logits' array is its thirty-two blocks, -/
theorem split_l (d : Dev nD) (X : Buf (Elt F) (lLoc d)) : (lLoc d ↦{fullShare} X : sProp 𝕄) = bigSep Finset.univ (lBlk d X) := by
  rw [show (Finset.univ : Finset (Idx (lLoc d))) = Finset.univ.biUnion fun j : Fin 32 => (blkL j).set from (Rect.biUnion_part hdivL).symm]
  exact pointsTo_biUnion _ _ fun j _ j' _ h => Rect.part_disjoint hdivL h
/-- the weights' array is, -/
theorem split_a (d : Dev nD) (X : Buf (Elt F) (aLoc d)) : (aLoc d ↦{fullShare} X : sProp 𝕄) = bigSep Finset.univ (aBlk d X) := by
  rw [show (Finset.univ : Finset (Idx (aLoc d))) = Finset.univ.biUnion fun j : Fin 32 => (blkR j).set from (Rect.biUnion_part hdivR).symm]
  exact pointsTo_biUnion _ _ fun j _ j' _ h => Rect.part_disjoint hdivR h
/-- and the experts' array is. -/
theorem split_b (d : Dev nD) (X : Buf (Elt F) (bLoc d)) : (bLoc d ↦{fullShare} X : sProp 𝕄) = bigSep Finset.univ (bBlk d X) := by
  rw [show (Finset.univ : Finset (Idx (bLoc d))) = Finset.univ.biUnion fun j : Fin 32 => (blkR j).set from (Rect.biUnion_part hdivR).symm]
  exact pointsTo_biUnion _ _ fun j _ j' _ h => Rect.part_disjoint hdivR h

/-- The three arrays are the blocks of all the tasks. -/
theorem join (d : Dev nD) (X : Buf (Elt F) (lLoc d)) (Y : Buf (Elt F) (aLoc d)) (Z : Buf (Elt F) (bLoc d)) :
    (bigSep Finset.univ fun j : Fin 32 => iprop(lBlk d X j ∗ aBlk d Y j ∗ bBlk d Z j) : sProp 𝕄)
      = iprop((lLoc d ↦{fullShare} X) ∗ (aLoc d ↦{fullShare} Y) ∗ bLoc d ↦{fullShare} Z) := by
  rw [bigSep_sep', bigSep_sep', split_l, split_a, split_b]

/-- What the two cores take at the start is what their tasks take; -/
theorem st0_eq (d : Dev nD) : (bigSep Finset.univ fun c : Fin ((K (F := F)).nCore 0) => (P m).st 0 d c)
    = iprop((lLoc d ↦{fullShare} LT m d) ∗ (aLoc d ↦{fullShare} m (aLoc d)) ∗ bLoc d ↦{fullShare} m (bLoc d)) :=
  (bigSep_blk (goR m d)).trans (join d _ _ _)
/-- what they give back is what their tasks give back. -/
theorem dn0_eq (d : Dev nD) : (bigSep Finset.univ fun c : Fin ((K (F := F)).nCore 0) => (P m).dn 0 d c)
    = iprop((lLoc d ↦{fullShare} LT m d) ∗ (aLoc d ↦{fullShare} WV m d) ∗ bLoc d ↦{fullShare} IV m d) :=
  (bigSep_blk (tdR m d)).trans (join d _ _ _)

/-! ## The launch element -/

/-- The pipeline's staging cells are different ones. -/
theorem pins_inj : Function.Injective (Pipeline.PerCore.cellOf (nD := nD) (τ := τ) (Pipeline.pinD (pcfgs (F := F)) fun _ => adm)) := cellOf_inj

/-- The handshakes' rounds and the pipeline's. -/
def u₀ : UU := (initOf (K (F := F)).hsCells (K (F := F)).hsToks,
  (initOf (Pipeline.PerCore.cells (Pipeline.pinD (pcfgs (F := F)) fun _ => adm) pins_inj)
    (Pipeline.PerCore.launchToks (Pipeline.pinD (pcfgs (F := F)) fun _ => adm) pins_inj), 1))

/-- What @main is given of the pipeline's. -/
def G (d : Dev nD) : sProp 𝕄 :=
  iprop((bigSep Finset.univ fun p : Fin 1 => Pipeline.PerCore.cellsGhost (Pipeline.pinD (pcfgs (F := F)) fun _ => adm) EP p d)
    ∗ bigSep Finset.univ fun p : Fin 1 => Pipeline.PerCore.toksInit (Pipeline.pinD (pcfgs (F := F)) fun _ => adm) EP p d)

omit [FloatOps F] [Named F] in
theorem bigSep_emp' {I : Type} (s : Finset I) : (bigSep s fun _ => iprop(emp)) = (iprop(emp) : sProp 𝕄) := bigSep_emp_const s

/-- The launch element's ghost state, split into the handshakes', the pipeline's and the transfers'. -/
theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m).x q thr) := by
  unfold u₀
  iintro Hu
  ihave H := (ownU_pair _ _) $$ Hu
  icases H with ⟨HH, HP⟩
  ihave HP := (show BI.own ((embR : Emb UP 𝕄) (_, 1)) ⊢ BI.own ((EP : Emb (UR sig nD τ) 𝕄) _) from BI.Entails.refl _) $$ HP
  imod (Pipeline.PerCore.fund_ghost (Pipeline.pinD (pcfgs (F := F)) fun _ => adm) EP pins_inj) $$ HP with ⟨Hg, Ht⟩
  imodintro
  isplitl [HH]; · iexact HH
  isplitl [Hg Ht]
  · unfold G; rw [bigSep_sep']; isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The buffers of the transposed weights, -/
abbrev a' : DevRef τ sig := Proc.devRef .tc (main_v1_0 : Ref sig .tc)
/-- of the transposed experts, -/
abbrev b' : DevRef τ sig := Proc.devRef .tc (main_v1_1 : Ref sig .tc)
/-- of the weights -/
abbrev r' : DevRef τ sig := Proc.devRef .tc (main_v2 : Ref sig .tc)
/-- and of the experts. -/
abbrev s' : DevRef τ sig := Proc.devRef .tc (main_v3 : Ref sig .tc)
/-- The transpose of the weights. -/
abbrev opR : HloOp τ sig (Elt F) := StableHlo.unary main_v1_0 main_v2
  ((transpose S16384x2 [1, 0] · transposes_S2x16384_S16384x2_1_0) : (⟨S2x16384, .f32⟩ : BufTy).Contents (Elt F) → (⟨S16384x2, .f32⟩ : BufTy).Contents (Elt F))
/-- The transpose of the experts. -/
abbrev opS : HloOp τ sig (Elt F) := StableHlo.unary main_v1_1 main_v3
  ((transpose S16384x2 [1, 0] · transposes_S2x16384_S16384x2_1_0) : (⟨S2x16384, .i32⟩ : BufTy).Contents (Elt F) → (⟨S16384x2, .i32⟩ : BufTy).Contents (Elt F))

/-- The arrays they touch. -/
abbrev S4 : Finset (DevRef τ sig) := {a', b', r', s'}

omit [FloatOps F] [Named F] in
/-- Holding the four is holding each. -/
theorem held_S4 (d : Dev nD) (W : Valuation τ sig (Elt F)) :
    (held (T d) S4 W : sProp 𝕄) = iprop((aLoc d ↦{fullShare} W a') ∗ (bLoc d ↦{fullShare} W b') ∗ (rLoc d ↦{fullShare} W r') ∗ sLoc d ↦{fullShare} W s') := by
  unfold held S4
  rw [SparseCore.bigSep_insert' (by decide), SparseCore.bigSep_insert' (by decide), SparseCore.bigSep_insert' (by decide), bigSep_singleton]

/-- The two transposes touch these four buffers alone: -/
theorem hR : (opR (F := F)).bufs ⊆ S4 := show ({a', r'} : Finset (DevRef τ sig)) ⊆ S4 by decide
/-- the first, and the second. -/
theorem hS : (opS (F := F)).bufs ⊆ S4 := show ({b', s'} : Finset (DevRef τ sig)) ⊆ S4 by decide

/-- The device's buffers after the call, as far as the transposes look. -/
def V2 (d : Dev nD) : Valuation τ sig (Elt F) := Function.update (Function.update (fun b => m (d, b)) a' (WV m d)) b' (IV m d)

/-- Before the transposes the four buffers hold the transposed weights, -/
theorem V2_a (d : Dev nD) : V2 m d a' = WV m d := (Function.update_of_ne (show a' ≠ b' by decide) _ _).trans (Function.update_self _ _ _)
/-- the transposed experts, -/
theorem V2_b (d : Dev nD) : V2 m d b' = IV m d := Function.update_self _ _ _
/-- and in the results' two what they held at launch. -/
theorem V2_r (d : Dev nD) : V2 m d r' = m (rLoc d) :=
  (Function.update_of_ne (show r' ≠ b' by decide) _ _).trans (Function.update_of_ne (show r' ≠ a' by decide) _ _)
/-- The same of the experts' result. -/
theorem V2_s (d : Dev nD) : V2 m d s' = m (sLoc d) :=
  (Function.update_of_ne (show s' ≠ b' by decide) _ _).trans (Function.update_of_ne (show s' ≠ a' by decide) _ _)

/-- The weights, token by token, -/
def RV (d : Dev nD) : Buf (Elt F) (rLoc d) := transpose S16384x2 [1, 0] (WV m d : (⟨S2x16384, .f32⟩ : BufTy).Contents (Elt F)) transposes_S2x16384_S16384x2_1_0
/-- and the experts. -/
def SV (d : Dev nD) : Buf (Elt F) (sLoc d) := transpose S16384x2 [1, 0] (IV m d : (⟨S2x16384, .i32⟩ : BufTy).Contents (Elt F)) transposes_S2x16384_S16384x2_1_0

/-- After the transposes the results hold the weights -/
theorem V4_r (d : Dev nD) : opS.result (opR.result (V2 m d)) r' = RV m d := by
  rw [(opS (F := F)).result_of_not_mem _ (b := r') (show r' ∉ ({s'} : Finset (DevRef τ sig)) by decide)]
  exact (unary_result _ _ _ _ _ _).trans (by rw [V2_a]; rfl)
/-- and the experts. -/
theorem V4_s (d : Dev nD) : opS.result (opR.result (V2 m d)) s' = SV m d := by
  refine (unary_result _ _ _ _ _ _).trans ?_
  rw [(opR (F := F)).result_of_not_mem _ (b := b') (show b' ∉ ({r'} : Finset (DevRef τ sig)) by decide), V2_b]; rfl

/-- What @main leaves the claim: the arguments at their launch contents and the two results. -/
abbrev FIN (d : Dev nD) : sProp 𝕄 :=
  iprop((xLoc d ↦{fullShare} m (xLoc d)) ∗ (wLoc d ↦{fullShare} m (wLoc d)) ∗ (rLoc d ↦{fullShare} RV m d) ∗ sLoc d ↦{fullShare} SV m d)

/-- The buffers after the region: the arguments, the logits, and the four of the transposes. -/
theorem after_region (d : Dev nD) : (unscopedBufs d (V1 m d) : sProp 𝕄)
    = iprop((xLoc d ↦{fullShare} m (xLoc d)) ∗ (wLoc d ↦{fullShare} m (wLoc d)) ∗ (lLoc d ↦{fullShare} LT m d) ∗ (aLoc d ↦{fullShare} m (aLoc d))
      ∗ (bLoc d ↦{fullShare} m (bLoc d)) ∗ (rLoc d ↦{fullShare} m (rLoc d)) ∗ sLoc d ↦{fullShare} m (sLoc d)) := by
  rw [unscopedBufs_eq, V1_out, V1_ne m d main_arg0 (by decide), V1_ne m d main_arg1 (by decide), V1_ne m d main_v1_0 (by decide),
    V1_ne m d main_v1_1 (by decide), V1_ne m d main_v2 (by decide), V1_ne m d main_v3 (by decide)]
/-- The four buffers at the end, one by one. -/
theorem held_end (d : Dev nD) : (held (T d) S4 (opS.result (opR.result (V2 m d))) : sProp 𝕄)
    = iprop((aLoc d ↦{fullShare} opS.result (opR.result (V2 m d)) a') ∗ (bLoc d ↦{fullShare} opS.result (opR.result (V2 m d)) b')
      ∗ (rLoc d ↦{fullShare} RV m d) ∗ sLoc d ↦{fullShare} SV m d) := by
  rw [held_S4, V4_r, V4_s]

/-- The region's entry, -/
theorem reg_pre (d : Dev nD) : (reg m).pre d = iprop(unscopedBufs d (V0 m d) ∗ owing d) := rfl
/-- and its exit. -/
theorem reg_post (d : Dev nD) : (reg m).post d = iprop(unscopedBufs d (V1 m d) ∗ owing d) := rfl

/-- The TensorCore's state before the call: what it owes, beside its place in the handshakes. -/
def tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))
/-- The TensorCore's state before its first call: its debt and the rest. -/
theorem tcSt_zero (d : Dev nD) : ((K (F := F)).tcSt EH d 0 : sProp 𝕄) = iprop(owing d ∗ tcRest d) := rfl

/-- @main on device `d`'s TensorCore: the logits' region, the call, the two transposes. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  simp only [main, wp_bind, wp_pure, bigSep_univ_of_subsingleton (0 : Fin 1)]
  iintro ⟨#Hctx, Hst, ⟨Hb, Hheld, Hts, -⟩, Hg, Ht⟩
  ihave #Hlv := (SparseCore.Cfg.ctx_levAts κ) $$ Hctx
  iapply ((K (F := F)).wp_liftProg (D (F := F)) 𝒱 (T d) Set.univ none (.op (.customCall (Pipeline.entry 0) ()) .ret) _)
  iapply ((reg m).wp (pcfgs (F := F)) adm (pdats m) none pins_inj EP defs₀ 𝒱₀ (K (F := F)).L (K (F := F)).lev d none (by simp) .ret _)
  rw [reg_pre, reg_post]
  ihave Hst := (Entails.of_eq (tcSt_zero d)) $$ Hst
  icases Hst with ⟨HO, Hst⟩
  isplitr [Hb Hheld HO Hg Ht]
  · iintro ⟨Hb, Hub, HO⟩
    rw [wp_ret]; imodintro
    ihave Hub := (Entails.of_eq (after_region m d)) $$ Hub
    icases Hub with ⟨Hx, Hw, Hl, Ha, Hbb, Hr, Hs⟩
    iapply ((K (F := F)).wp_run (D (F := F)) 𝒱 (EH := EH) (P := P m) κ d 0)
    isplitr; · iexact Hctx
    isplitl [HO Hst]
    · iapply (Entails.of_eq (tcSt_zero d).symm)
      isplitl [HO] <;> iassumption
    isplitl [Hl Ha Hbb]
    · rw [st0_eq]
      isplitl [Hl]; · iexact Hl
      isplitl [Ha]; · iexact Ha
      iexact Hbb
    iintro ⟨Hst, Hdn⟩
    ihave Hdn' := (Entails.of_eq (dn0_eq m d)) $$ Hdn
    icases Hdn' with ⟨-, Ha, Hbb⟩
    iapply (wp_hlo_within 𝒱 (SparseCore.T d) none Set.univ (op := opR) (S := S4) hR (V := V2 m d)) $$ [Hb Ha Hbb Hr Hs]
    · isplitl [Hb]; · iexact Hb
      rw [held_S4, V2_a, V2_b, V2_r, V2_s]
      isplitl [Ha]; · iexact Ha
      isplitl [Hbb]; · iexact Hbb
      isplitl [Hr]; · iexact Hr
      iexact Hs
    iintro ⟨Hb, Hheld⟩
    rw [wp_ret]; imodintro
    iapply (wp_hlo_within 𝒱 (SparseCore.T d) none Set.univ (op := opS) (S := S4) hS (V := opR.result (V2 m d))) $$ [Hb Hheld]
    · isplitl [Hb]; · iexact Hb
      iexact Hheld
    iintro ⟨Hb, Hheld⟩
    ihave Hh := (Entails.of_eq (held_end m d)) $$ Hheld
    icases Hh with ⟨-, -, Hr, Hs⟩
    rw [wp_ret]; imodintro; imodintro
    isplitl [Hst]; · iexact Hst
    isplitl [Hx Hw Hr Hs]
    · isplitl [Hx]; · iexact Hx
      isplitl [Hw]; · iexact Hw
      isplitl [Hr] <;> iassumption
    isplitl [Hb] <;> iassumption
  isplitl [Hb]; · iexact Hb
  isplitl [Hheld HO]
  · isplitl [Hheld]; · iexact Hheld
    iexact HO
  isplitr; · iexact Hlv
  isplitl [Hg] <;> iassumption

/-- What the final state says of device `d`. -/
def fq (d : Dev nD) (σ : Phys nD τ sig (Elt F)) : Prop :=
  σ.mem.mem (xLoc d) = m (xLoc d) ∧ σ.mem.mem (wLoc d) = m (wLoc d) ∧ σ.mem.mem (rLoc d) = RV m d ∧ σ.mem.mem (sLoc d) = SV m d

/-- Holding an array whole, the state has its contents. -/
theorem agree (σ : Phys nD τ sig (Elt F)) (ℓ : Loc nD τ sig) (f : Buf (Elt F) ℓ) :
    iprop(SI σ ∗ ℓ ↦{fullShare} f) ⊢ (iprop(⌜σ.mem.mem ℓ = f⌝ ∗ SI σ) : sProp 𝕄) := by
  iintro H
  ihave H := (persistent_entails_right (SI_pointsTo_agree (st := σ) (ℓ := ℓ) (I := Finset.univ) (q := fullShare) (f := f))) $$ H
  icases H with ⟨%hx, HSI, -⟩
  isplitr
  · ipureintro; exact funext fun i => hx i (Finset.mem_univ i)
  · iexact HSI

/-- The resources at the end say it of the final state. -/
theorem hfin (d : Dev nD) (σ : Phys nD τ sig (Elt F)) : iprop(FIN m d ∗ SI σ) ⊢ (⌜fq m d σ⌝ : sProp 𝕄) := by
  iintro ⟨⟨Hx, Hw, Hr, Hs⟩, HSI⟩
  ihave H := (agree σ _ _) $$ [HSI Hx]
  · isplitl [HSI] <;> iassumption
  icases H with ⟨%hx, HSI⟩
  ihave H := (agree σ _ _) $$ [HSI Hw]
  · isplitl [HSI] <;> iassumption
  icases H with ⟨%hw, HSI⟩
  ihave H := (agree σ _ _) $$ [HSI Hr]
  · isplitl [HSI] <;> iassumption
  icases H with ⟨%hr, HSI⟩
  ihave H := (agree σ _ _) $$ [HSI Hs]
  · isplitl [HSI] <;> iassumption
  icases H with ⟨%hs, HSI⟩
  ipureintro; exact ⟨hx, hw, hr, hs⟩

/-- The program's run: the arguments kept, the results computed, every semaphore at rest. -/
def QC : PUnit × MemSt nD τ sig (Elt F) → Prop := fun r =>
  (∀ d : Dev nD, r.2.mem (xLoc d) = m (xLoc d) ∧ r.2.mem (wLoc d) = m (wLoc d) ∧ r.2.mem (rLoc d) = RV m d ∧ r.2.mem (sLoc d) = SV m d) ∧ r.2.sem = fun _ => 0

/-- Every execution from a memory with zero counters ends with the arguments unchanged, the weights and experts at their values, and the
    counters at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.KernelIdeal.Routing

end
-- ==== Proof.Frames.lean ====
/-
  The frames of the three programs, each its run with the values dropped, and the naming of the kernel's constant.
-/
module

public import proofs.«01_k».proof.Defs
public import proofs.«01_k».proof.Proof.Run
public import proofs.«01_k».proof.Proof.Machine.Run
public import proofs.«01_k».proof.Proof.Gen.ReferenceIdeal
public import proofs.«01_k».proof.Proof.Gen.ReferenceIdeal.Run
public import proofs.«01_k».proof.Proof.Gen.Pre_finite

@[expose] public section

noncomputable section

namespace Cert.Frames

open Idealize.ShloMosaic Idealize.SL.Sem

/-- The kernel on the machine's floats ends with its arguments unchanged and every semaphore at zero. -/
theorem machine : Cert.quiescent_Kernel (hKernel := Cert.Kernel.Gen.facts) := fun m ρ _ =>
  (θ_run Cert.Kernel.defs _ _).mono (fun _ h => ⟨fun c => ⟨(h.1 c).1, (h.1 c).2.1⟩, h.2⟩) (Cert.Kernel.Routing.run_main (F := Bits) m ρ)

/-- So does the kernel on extended reals, -/
theorem ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩) (Cert.KernelIdeal.Routing.run_main (F := Ideal) m ρ)

/-- on finite arguments in particular, -/
theorem ideal_finite : Cert.quiescent_KernelIdeal_pre_finite (hKernelIdeal := Cert.KernelIdeal.Gen.facts) (hPre_finite := Cert.Pre_finite.Gen.facts) :=
  fun m ρ _ => ideal m ρ trivial

/-- and so does the reference, -/
theorem reference : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- on finite arguments in particular. -/
theorem reference_finite :
    Cert.quiescent_ReferenceIdeal_pre_finite (hReferenceIdeal := Cert.ReferenceIdeal.Gen.facts) (hPre_finite := Cert.Pre_finite.Gen.facts) :=
  fun m ρ _ => reference m ρ trivial

/-- The constant standing for minus infinity is minus infinity on extended reals, its own value on the machine. -/
theorem mask : Cert.preserves_Kernel_KernelIdeal :=
  IdealRules.named_const.statement Cert.KernelIdeal.κ "mask" .f32 0xFF61B1E6#32 ⊥ rfl

end Cert.Frames

end
-- ==== Proof.Logits.lean ====
/-
  The transposed logits the TensorCore leaves, over the extended reals: expert `r`'s entry for token `n` is the sum over the model
  width of the expert's weights times the token's entries.
-/
module

public import proofs.«01_k».proof.Proof.Region
public import Idealize.ShloMosaic.Lib.Pipeline.ValueKit
public import Idealize.ShloMosaic.Lib.Pointwise
public import Idealize.ShloMosaic.PureOps.Ideal.Laws

@[expose] public section

noncomputable section

namespace Cert.KernelIdeal.Routing

open Cert.KernelIdeal Cert.KernelIdeal.Gen

open Idealize.ShloMosaic hiding T
open Idealize.ShloMosaic.TcCoe
open Idealize.ShloMosaic.Pipeline (Dat Cfg Window)

/-- One block's product, read at an index. -/
theorem pay_apply (w : Vec Ideal S16x2048 .f32) (x : Vec Ideal S1024x2048 .f32) (r : Fin 16) (j : Fin 1024) :
    k0_pay1 w x (ix2 r j) = ∑ k : Fin 2048, (w (ix2 r k) : EReal) * x (ix2 j k) := by
  unfold k0_pay1
  pointwise

variable (m : (ℓ : Loc nD τ sig) → Buf (Elt Ideal) ℓ)

/-- The weights, -/
def wArr (d : Dev nD) : S16x2048.Idx → EReal := m (wLoc d)
/-- and the tokens, as arrays over their shapes. -/
def xArr (d : Dev nD) : S16384x2048.Idx → EReal := m (xLoc d)

/-- The transposed logits. -/
def logitsT (d : Dev nD) : S16x16384.Idx → EReal := fun y => ∑ k : Fin 2048, wArr m d (ix2 (y 0) k) * xArr m d (ix2 (y 1) k)

/-- Where the blocks lie: the weights' is the whole array, the tokens' and the result's begin at 1024 times the point. -/
theorem blocks : ∀ t, win0_0.index t = ![0, 0] ∧ win0_1.index t = ![(grid0.coords t 0).val, 0] ∧ win0_2.index t = ![0, (grid0.coords t 0).val] := by
  decide +kernel

/-- A block's product is the block's part of the transposed logits. -/
theorem block_eq (d : Dev nD) (t : Fin cfg0.N) (r : Fin 16) (j : Fin 1024) :
    k0_pay1 (F := Ideal) (wBlk m d t) (xBlk m d t) (ix2 r j) = logitsT m d ((win0_2.blk t).view.emb (ix2 r j : S16x1024.Idx)) := by
  obtain ⟨e0, e1, e2⟩ := blocks t
  rw [pay_apply]
  unfold logitsT wArr xArr
  refine Finset.sum_congr rfl fun k _ => ?_
  congr 1 <;> blk_ext [wBlk, xBlk, e0, e1, e2]

/-- What the pipeline leaves is the transposed logits. -/
theorem LT_eq (d : Dev nD) : LT m d = (logitsT m d : Buf (Elt Ideal) (lLoc d)) := by
  unfold LT
  refine (dat m d).arrAt_eq_of_covers 2 _ (by decide +kernel) fun t hf y => ?_
  blk_simp
  have h : ∀ y : S16x1024.Idx, k0_pay1 (F := Ideal) (wBlk m d t) (xBlk m d t) y = logitsT m d ((win0_2.blk t).view.emb y) := fun y => by
    rw [eq_ix2 y]; exact block_eq m d t (y 0) (y 1)
  exact h y

end Cert.KernelIdeal.Routing

end
-- ==== Proof.Order.lean ====
/-
  The two greatest of finitely many reals, with ties broken towards the lower position, and where a stable descending sort puts them.
-/
module

public import Idealize.ShloMosaic.PureOps.Ideal
public import Idealize.ShloMosaic.Lib.PlanTiles.StableSort

@[expose] public section

noncomputable section

namespace Cert.Order

open Idealize.ShloMosaic Idealize.ShloMosaic.PlanTiles

variable {n : ℕ}

/-- Position `a` ranks strictly before position `b`: its value is greater, or the values are equal and `a` is the lower position. -/
def Before (v : Fin n → ℝ) (a b : Fin n) : Prop := v b < v a ∨ (v a = v b ∧ a < b)

/-- Of two different positions one ranks before the other. -/
theorem Before.total (v : Fin n → ℝ) {a b : Fin n} (h : a ≠ b) : Before v a b ∨ Before v b a := by
  unfold Before
  rcases lt_trichotomy (v a) (v b) with hv | hv | hv
  · exact Or.inr (Or.inl hv)
  · rcases lt_or_gt_of_ne h with hp | hp
    · exact Or.inl (Or.inr ⟨hv, hp⟩)
    · exact Or.inr (Or.inr ⟨hv.symm, hp⟩)
  · exact Or.inl (Or.inl hv)

/-- No two positions rank before each other. -/
theorem Before.asymm {v : Fin n → ℝ} {a b : Fin n} (h : Before v a b) (h' : Before v b a) : False := by
  rcases h with h | ⟨h, hp⟩ <;> rcases h' with h' | ⟨h', hp'⟩
  · exact lt_asymm h h'
  · exact absurd h (by rw [h']; exact lt_irrefl _)
  · exact absurd h' (by rw [h]; exact lt_irrefl _)
  · exact lt_asymm hp hp'

/-- A position that ranks before another has at least its value. -/
theorem Before.le {v : Fin n → ℝ} {a b : Fin n} (h : Before v a b) : v b ≤ v a := by
  rcases h with h | ⟨h, -⟩
  · exact h.le
  · exact h.ge

/-- Position `a` ranks before every other one, and position `b` before every one but `a`. -/
structure Top2 (v : Fin n → ℝ) (a b : Fin n) : Prop where
  ne : b ≠ a
  first : ∀ j, j ≠ a → Before v a j
  second : ∀ j, j ≠ a → j ≠ b → Before v b j

/-- How many positions hold a smaller value than position `k` does. -/
def below (v : Fin n → ℝ) (k : Fin n) : ℕ := (Finset.univ.filter fun j => v j < v k).card

/-- Counting the smaller values orders the positions as the values do. -/
theorem below_lt_iff (v : Fin n → ℝ) (k k' : Fin n) : below v k < below v k' ↔ v k < v k' := by
  constructor
  · intro h
    by_contra hle
    refine absurd h (not_lt.mpr (Finset.card_le_card fun j hj => ?_))
    simp only [Finset.mem_filter, Finset.mem_univ, true_and] at hj ⊢
    exact lt_of_lt_of_le hj (not_lt.mp hle)
  · intro h
    refine Finset.card_lt_card (Finset.ssubset_iff_of_subset (fun j hj => ?_) |>.mpr ⟨k, ?_, ?_⟩)
    · simp only [Finset.mem_filter, Finset.mem_univ, true_and] at hj ⊢
      exact hj.trans h
    · simpa using h
    · simp

/-- A stable sort by descending value leaves an earlier output ranked before a later one. -/
theorem before_of_lt (v : Fin n → ℝ) (R : Fin n → Fin n → Bool) (hR : ∀ k k', R k k' = decide (v k' < v k)) {i j : Fin n} (h : i < j) :
    Before v (sortedFrom R i) (sortedFrom R j) := by
  have hR' : R = fun x y => decide (below v y < below v x) := by
    funext x y; rw [hR]; exact decide_eq_decide.mpr (below_lt_iff v y x).symm
  have hp : (sortPositions n R).Pairwise (Lex (below v) (· < ·)) := by
    rw [hR']; exact pairwise_stableSort_lex (below v) (· < ·) (List.finRange n) (List.pairwise_lt_finRange n)
  have hL : Lex (below v) (· < ·) (sortedFrom R i) (sortedFrom R j) := List.pairwise_iff_get.mp hp _ _ h
  rcases hL with hL | ⟨he, hL⟩
  · exact Or.inl ((below_lt_iff v _ _).mp hL)
  · refine Or.inr ⟨?_, hL⟩
    refine le_antisymm ?_ ?_
    · exact not_lt.mp fun h => absurd ((below_lt_iff v _ _).mpr h) (by omega)
    · exact not_lt.mp fun h => absurd ((below_lt_iff v _ _).mpr h) (by omega)

/-- The first two outputs of a stable sort by descending value are the two greatest. -/
theorem top2_sortedFrom (v : Fin n → ℝ) (R : Fin n → Fin n → Bool) (hR : ∀ k k', R k k' = decide (v k' < v k)) (h0 : 0 < n) (h1 : 1 < n) :
    Top2 v (sortedFrom R ⟨0, h0⟩) (sortedFrom R ⟨1, h1⟩) where
  ne h := by simpa using sortedFrom_injective R h
  first j hj := by
    obtain ⟨k, rfl⟩ := sortedFrom_surjective R j
    refine before_of_lt v R hR (Fin.lt_def.mpr (Nat.pos_of_ne_zero fun hk => hj ?_))
    exact congrArg _ (Fin.ext hk)
  second j hj hj' := by
    obtain ⟨k, rfl⟩ := sortedFrom_surjective R j
    refine before_of_lt v R hR (Fin.lt_def.mpr ?_)
    have e0 : k.val ≠ 0 := fun hk => hj (congrArg _ (Fin.ext hk))
    have e1 : k.val ≠ 1 := fun hk => hj' (congrArg _ (Fin.ext hk))
    show 1 < k.val
    omega

end Cert.Order

end
-- ==== Proof.Choice.lean ====
/-
  One token's routing over the extended reals, when its sixteen logits are real: the two experts the kernel picks are the two greatest
  logits' with ties broken towards the lower index, and the two weights are those logits' exponentials over the sum of the two.
-/
module

public import proofs.«01_k».proof.Proof.Token
public import proofs.«01_k».proof.Proof.Order
public import Idealize.ShloMosaic.PureOps.Ideal.Laws
public import Idealize.ShloMosaic.Lib.IdealHost
public import Idealize.ShloMosaic.Lib.PlanTiles.Rows

@[expose] public section

noncomputable section

namespace Cert.Choice

open Idealize.ShloMosaic Cert.Order

/-! ## The folds -/

/-- A running maximum from entry `0` on, over entries all at most `M` and one of them `M`, is `M`. -/
theorem topMax_eq (l : ℕ → EReal) (M : EReal) (n a : ℕ) (ha : a ≤ n) (hM : l a = M) (hle : ∀ j ≤ n, l j ≤ M) :
    Router.topMax (F := Ideal) l n = M := by
  have hub : ∀ k ≤ n, Router.topMax (F := Ideal) l k ≤ M := fun k => by
    induction k with
    | zero => exact fun _ => hle 0 (Nat.zero_le _)
    | succ k ih => exact fun hk => max_le (ih (by omega)) (hle _ hk)
  have hlb : ∀ k j, j ≤ k → l j ≤ Router.topMax (F := Ideal) l k := fun k => by
    induction k with
    | zero => intro j hj; rw [Nat.le_zero.mp hj]; exact le_refl _
    | succ k ih =>
      intro j hj
      rcases Nat.lt_or_eq_of_le hj with h | rfl
      · exact (ih j (by omega)).trans (le_max_left _ _)
      · exact le_max_right _ _
  exact le_antisymm (hub n le_rfl) (hM ▸ hlb n a ha)

/-- A running maximum from `⊥` on, over entries all at most `M` and one of them `M`, is `M`. -/
theorem sndMax_eq (l : ℕ → EReal) (i : BitVec 32) (M : EReal) (n b : ℕ) (hb : b < n) (hM : Router.other (F := Ideal) ⊥ l i b = M)
    (hle : ∀ j < n, Router.other (F := Ideal) ⊥ l i j ≤ M) : Router.sndMax (F := Ideal) ⊥ l i n = M := by
  have hub : ∀ k ≤ n, Router.sndMax (F := Ideal) ⊥ l i k ≤ M := fun k => by
    induction k with
    | zero => exact fun _ => bot_le
    | succ k ih => exact fun hk => max_le (ih (by omega)) (hle _ hk)
  have hlb : ∀ k j, j < k → Router.other (F := Ideal) ⊥ l i j ≤ Router.sndMax (F := Ideal) ⊥ l i k := fun k => by
    induction k with
    | zero => intro j hj; omega
    | succ k ih =>
      intro j hj
      rcases Nat.lt_or_eq_of_le (Nat.le_of_lt_succ hj) with h | rfl
      · exact (ih j h).trans (le_max_left _ _)
      · exact le_max_right _ _
  exact le_antisymm (hub n le_rfl) (hM ▸ hlb n b hb)

/-- A running minimum of the indices a condition holds at, from `16` on, over sixteen indices, is the least such index. -/
theorem least_eq (f : ℕ → BitVec 32) (c : ℕ → BitVec 1) (h0 : f 0 = 16#32)
    (hs : ∀ n, f (n + 1) = IntOp.minsi (f n) (Scalar.select (c n) (BitVec.ofNat 32 n) 16#32))
    (a : ℕ) (ha : a < 16) (hc : c a = 1#1) (hlt : ∀ n < a, c n ≠ 1#1) : f 16 = BitVec.ofNat 32 a := by
  have key : ∀ n ≤ 16, f n = BitVec.ofNat 32 (if a < n then a else 16) := fun n => by
    induction n with
    | zero => intro _; rw [h0]; rfl
    | succ n ih =>
      intro hn
      rw [hs, ih (by omega)]
      have hsel : ∃ k, (k = n ∨ k = 16) ∧ (n = a → k = n) ∧ (n < a → k = 16) ∧
          Scalar.select (c n) (BitVec.ofNat 32 n) 16#32 = BitVec.ofNat 32 k := by
        by_cases h : c n = 1#1
        · refine ⟨n, Or.inl rfl, fun _ => rfl, fun hna => absurd h (hlt n hna), ?_⟩
          rw [h]; rfl
        · refine ⟨16, Or.inr rfl, fun hna => absurd (hna ▸ hc) h, fun _ => rfl, ?_⟩
          exact if_neg h
      obtain ⟨k, hk, hke, hkl, hsel⟩ := hsel
      rw [hsel, PlanTiles.minsi_word (by split <;> omega) (by omega)]
      refine congrArg _ ?_
      rcases lt_trichotomy n a with h | h | h
      · have := hkl h; rw [if_neg (by omega), if_neg (by omega)]; omega
      · have := hke h; rw [if_neg (by omega), if_pos (by omega)]; omega
      · rw [if_pos h, if_pos (by omega)]; omega
  rw [key 16 le_rfl, if_pos ha]

/-! ## The two experts -/

variable {l : ℕ → EReal} {v : Fin 16 → ℝ} {a b : Fin 16}

/-- The words of two indices below sixteen are equal only when the indices are. -/
theorem word_inj {p q : ℕ} (hp : p < 16) (hq : q < 16) (h : BitVec.ofNat 32 p = BitVec.ofNat 32 q) : p = q := by
  have := congrArg BitVec.toNat h
  simp only [BitVec.toNat_ofNat] at this
  omega

/-- The ordered equality of two extended reals holds exactly when they are equal. -/
theorem oeq_iff (x y : EReal) : FloatOps.cmpf (F := Ideal) (φ := .f32) .oeq x y = 1#1 ↔ x = y := by
  show BitVec.ofBool (decide (x = y)) = 1#1 ↔ x = y
  by_cases h : x = y <;> simp [h]

/-- The largest logit is the first expert's. -/
theorem m1_eq (hl : ∀ r : Fin 16, l r.val = (v r : EReal)) (h : Top2 v a b) : Router.m1 (F := Ideal) l = (v a : EReal) := by
  refine topMax_eq l _ 15 a.val (by omega) (hl a) fun j hj => ?_
  rw [show l j = (v ⟨j, by omega⟩ : EReal) from hl ⟨j, by omega⟩]
  by_cases hja : (⟨j, by omega⟩ : Fin 16) = a
  · rw [hja]
  · exact EReal.coe_le_coe_iff.mpr (h.first _ hja).le

/-- The first expert's index. -/
theorem i1_eq (hl : ∀ r : Fin 16, l r.val = (v r : EReal)) (h : Top2 v a b) : Router.i1 (F := Ideal) l = BitVec.ofNat 32 a.val := by
  unfold Router.i1
  rw [m1_eq hl h]
  refine least_eq _ (fun n => FloatOps.cmpf (F := Ideal) (φ := .f32) .oeq (l n) (v a : EReal)) rfl (fun _ => rfl) a.val a.isLt
    ((oeq_iff _ _).mpr (hl a)) fun n hn => ?_
  rw [ne_eq, oeq_iff, show l n = (v ⟨n, by omega⟩ : EReal) from hl ⟨n, by omega⟩, EReal.coe_eq_coe_iff]
  intro he
  rcases h.first ⟨n, by omega⟩ (fun e => absurd (congrArg Fin.val e) (by simp; omega)) with hb | ⟨-, hb⟩
  · exact absurd he hb.ne
  · exact absurd hb (by rw [Fin.lt_def]; simp; omega)

/-- Whether two index words differ. -/
theorem ne_iff (p q : ℕ) (hp : p < 16) (hq : q < 16) :
    IntOp.cmpi .ne (BitVec.ofNat 32 p) (BitVec.ofNat 32 q) = 1#1 ↔ p ≠ q := by
  show BitVec.ofBool (BitVec.ofNat 32 p != BitVec.ofNat 32 q) = 1#1 ↔ p ≠ q
  by_cases h : p = q
  · simp [h]
  · have : BitVec.ofNat 32 p ≠ BitVec.ofNat 32 q := fun e => h (word_inj hp hq e)
    simp [h, bne_iff_ne.mpr this]

/-- Among the logits other than the first expert's, the first expert's own entry is `⊥`, -/
theorem other_self (l : ℕ → EReal) (p : ℕ) : Router.other (F := Ideal) ⊥ l (BitVec.ofNat 32 p) p = ⊥ := by
  unfold Router.other
  rw [show IntOp.cmpi .eq (BitVec.ofNat 32 p) (BitVec.ofNat 32 p) = 1#1 by simp [IntOp.cmpi]]
  rfl

/-- and another expert's is its logit. -/
theorem other_of_ne (l : ℕ → EReal) {p q : ℕ} (hp : p < 16) (hq : q < 16) (h : q ≠ p) :
    Router.other (F := Ideal) ⊥ l (BitVec.ofNat 32 p) q = l q := by
  have : BitVec.ofNat 32 p ≠ BitVec.ofNat 32 q := fun e => h (word_inj hp hq e).symm
  unfold Router.other
  rw [show IntOp.cmpi .eq (BitVec.ofNat 32 p) (BitVec.ofNat 32 q) = 0#1 by simp [IntOp.cmpi, beq_eq_false_iff_ne.mpr this]]
  rfl

/-- The largest logit of the others is the second expert's. -/
theorem m2_eq (hl : ∀ r : Fin 16, l r.val = (v r : EReal)) (h : Top2 v a b) : Router.m2 (F := Ideal) ⊥ l = (v b : EReal) := by
  have hba : b.val ≠ a.val := fun e => h.ne (Fin.ext e)
  unfold Router.m2
  rw [i1_eq hl h]
  refine sndMax_eq l _ _ 16 b.val b.isLt (by rw [other_of_ne l a.isLt b.isLt hba]; exact hl b) fun j hj => ?_
  by_cases hja : j = a.val
  · rw [hja, other_self]; exact bot_le
  · rw [other_of_ne l a.isLt hj hja, show l j = (v ⟨j, hj⟩ : EReal) from hl ⟨j, hj⟩]
    by_cases hjb : (⟨j, hj⟩ : Fin 16) = b
    · rw [hjb]
    · exact EReal.coe_le_coe_iff.mpr (h.second _ (fun e => hja (congrArg Fin.val e)) hjb).le

/-- The second expert's index. -/
theorem i2_eq (hl : ∀ r : Fin 16, l r.val = (v r : EReal)) (h : Top2 v a b) : Router.i2 (F := Ideal) ⊥ l = BitVec.ofNat 32 b.val := by
  have hba : b.val ≠ a.val := fun e => h.ne (Fin.ext e)
  have hand : ∀ x y : BitVec 1, IntOp.andi x y = 1#1 ↔ x = 1#1 ∧ y = 1#1 := by decide
  unfold Router.i2
  rw [m2_eq hl h, i1_eq hl h]
  refine least_eq _ (fun n => IntOp.andi (FloatOps.cmpf (F := Ideal) (φ := .f32) .oeq (l n) (v b : EReal))
    (IntOp.cmpi .ne (BitVec.ofNat 32 a.val) (BitVec.ofNat 32 n))) rfl (fun _ => rfl) b.val b.isLt ?_ fun n hn => ?_
  · exact (hand _ _).mpr ⟨(oeq_iff _ _).mpr (hl b), (ne_iff _ _ a.isLt b.isLt).mpr hba.symm⟩
  · rw [ne_eq, hand, oeq_iff, ne_iff _ _ a.isLt (by omega), show l n = (v ⟨n, by omega⟩ : EReal) from hl ⟨n, by omega⟩,
      EReal.coe_eq_coe_iff]
    rintro ⟨he, hna⟩
    rcases h.second ⟨n, by omega⟩ (fun e => hna (congrArg Fin.val e).symm) (fun e => absurd (congrArg Fin.val e) (by simp; omega))
      with hb | ⟨-, hb⟩
    · exact absurd he hb.ne
    · exact absurd hb (by rw [Fin.lt_def]; simp; omega)

/-! ## The two weights -/

/-- A quotient of reals whose divisor is not zero is the real quotient. -/
theorem div_real (x : ℝ) {y : ℝ} (h : y ≠ 0) : Ideal.div (x : EReal) (y : EReal) = ((x / y : ℝ) : EReal) := by
  rw [Ideal.div_coe h, ← EReal.coe_mul, mul_one_div]

/-- The second expert's exponential relative to the first's. -/
theorem t_eq (hl : ∀ r : Fin 16, l r.val = (v r : EReal)) (h : Top2 v a b) :
    Router.t (F := Ideal) ⊥ l = (Real.exp (v b - v a) : EReal) := by
  unfold Router.t
  rw [m1_eq hl h, m2_eq hl h]
  show Ideal.exp ((v b : EReal) - (v a : EReal)) = _
  rw [← EReal.coe_sub, Ideal.exp_coe]

/-- The first expert's weight. -/
theorem w1_eq (hl : ∀ r : Fin 16, l r.val = (v r : EReal)) (h : Top2 v a b) :
    Router.w1 (F := Ideal) ⊥ l = ((1 / (1 + Real.exp (v b - v a)) : ℝ) : EReal) := by
  unfold Router.w1
  rw [t_eq hl h]
  show Ideal.div (Ideal.ofBits .f32 0x3F800000#32) (Ideal.ofBits .f32 0x3F800000#32 + (Real.exp (v b - v a) : EReal)) = _
  rw [Ideal.ofBits_one_f32, ← EReal.coe_one, ← EReal.coe_add, div_real _ (by positivity)]

/-- The second expert's weight. -/
theorem w2_eq (hl : ∀ r : Fin 16, l r.val = (v r : EReal)) (h : Top2 v a b) :
    Router.w2 (F := Ideal) ⊥ l = ((Real.exp (v b - v a) / (1 + Real.exp (v b - v a)) : ℝ) : EReal) := by
  unfold Router.w2
  rw [w1_eq hl h, t_eq hl h]
  show (Real.exp (v b - v a) : EReal) * ((1 / (1 + Real.exp (v b - v a)) : ℝ) : EReal) = _
  rw [← EReal.coe_mul, mul_one_div]

end Cert.Choice

end
-- ==== Proof.Reference.lean ====
/-
  The reference over the extended reals, read at one token whose sixteen logits are real: its softmax is a positive real that orders
  the experts as the logits do, so that its two greatest are the two greatest logits' experts; its two weights, the two values over
  their sum, are those logits' exponentials over the sum of the two.
-/
module

public import proofs.«01_k».proof.Proof.Choice
public import proofs.«01_k».proof.Proof.Gen.ReferenceIdeal.Run
public import Idealize.ShloMosaic.Lib.Pointwise
public import Idealize.ShloMosaic.Lib.Pipeline.Value

@[expose] public section

noncomputable section

namespace Cert.Reference

open Cert.ReferenceIdeal Cert.ReferenceIdeal.Gen
open Idealize.ShloMosaic Cert.Order Cert.Choice

/-! ## The reference's values -/

/-- The logits, every token's over the experts. -/
def logits (x : FVec Ideal S16384x2048 .f32) (W : FVec Ideal S16x2048 .f32) : FVec Ideal S16384x16 .f32 :=
  Host.dotGeneral dot_S16384x2048_S2048x16_S16384x16_1_0_0_1_n_n none x (transpose S2048x16 [1, 0] W transposes_S16x2048_S2048x16_1_0)

/-- Each token's largest logit. -/
def rowMax (L : FVec Ideal S16384x16 .f32) : FVec Ideal S16384 .f32 :=
  maximumf (broadcastInDim S16384 ![] bcast_S_S16384 (constant S_ .f32 0xFF800000#32))
    (Host.reduce FloatOps.maximumf L (constant S_ .f32 0xFF800000#32) reducesTo_S16384x16_S16384_d1 h_S_)

/-- One value per token, repeated over the experts. -/
def rows (M : FVec Ideal S16384 .f32) : FVec Ideal S16384x16 .f32 :=
  broadcastInDim S16384x16 ![0, 1] bcast_S16384x1_S16384x16_0_1 (broadcastInDim S16384x1 ![0] bcast_S16384_S16384x1_0 M)

/-- The exponentials of the logits less their token's largest. -/
def expo (L : FVec Ideal S16384x16 .f32) : FVec Ideal S16384x16 .f32 := Host.exp (subf L (rows (rowMax L)))

/-- The softmax over the experts. -/
def soft (L : FVec Ideal S16384x16 .f32) : FVec Ideal S16384x16 .f32 :=
  Host.divf (expo L) (rows (Host.reduceAdd (expo L) (constant S_ .f32 0x00000000#32) reducesTo_S16384x16_S16384_d1 h_S_))

/-- The two greatest of each token's softmax and their experts. -/
def top (L : FVec Ideal S16384x16 .f32) : FVec Ideal S16384x2 .f32 × IVec S16384x2 32 :=
  Host.topK S16384x2 1 (FloatOps.cmpfTotal .gt) (soft L) sliceFits_S16384x16_S16384x2

/-- The two greatest, divided by their sum. -/
def weights (L : FVec Ideal S16384x16 .f32) : FVec Ideal S16384x2 .f32 :=
  Host.divf (top L).1 (broadcastInDim S16384x2 ![0, 1] bcast_S16384x1_S16384x2_0_1 (broadcastInDim S16384x1 ![0] bcast_S16384_S16384x1_0
    (Host.reduceAdd (top L).1 (constant S_ .f32 0x00000000#32) reducesTo_S16384x2_S16384_d1 h_S_)))

/-! ## Read at an index -/

/-- A logit is the sum over the model width of the token's entries times the expert's. -/
theorem logits_apply (x : FVec Ideal S16384x2048 .f32) (W : FVec Ideal S16x2048 .f32) (n : Fin 16384) (r : Fin 16) :
    logits x W (ix2 n r) = ∑ k : Fin 2048, (x (ix2 n k) : EReal) * W (ix2 r k) := by
  unfold logits
  pointwise

/-- A value repeated over the experts is the token's. -/
theorem rows_apply (M : FVec Ideal S16384 .f32) (n : Fin 16384) (r : Fin 16) : rows M (ix2 n r) = M (ix1 n) := by
  unfold rows
  pointwise

/-- A sum of reals is real. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The largest of a token's real logits is real. -/
theorem rowMax_real (L : FVec Ideal S16384x16 .f32) (n : Fin 16384) (v : Fin 16 → ℝ) (hL : ∀ r, L (ix2 n r) = (v r : EReal)) :
    ∃ M : ℝ, rowMax L (ix1 n) = (M : EReal) := by
  have h : rowMax L (ix1 n) = max (Ideal.ofBits .f32 0xFF800000#32) (Finset.fold max (Ideal.ofBits .f32 0xFF800000#32) (fun r : Fin 16 => (L (ix2 n r) : EReal)) Finset.univ) := by
    unfold rowMax
    pointwise
  have hbot : Ideal.ofBits .f32 0xFF800000#32 = ⊥ := by simp [Ideal.ofBits, Ideal.ieee]
  rw [hbot, max_eq_right bot_le] at h
  have hlt : rowMax L (ix1 n) < (⊤ : EReal) := by
    rw [h]; exact (Finset.fold_max_lt _).mpr ⟨bot_lt_top, fun r _ => by rw [hL]; exact EReal.coe_lt_top _⟩
  have hgt : (⊥ : EReal) < rowMax L (ix1 n) := by
    rw [h]; exact (Finset.lt_fold_max _).mpr (Or.inr ⟨0, Finset.mem_univ _, by rw [hL]; exact EReal.bot_lt_coe _⟩)
  exact ⟨EReal.toReal (rowMax L (ix1 n)), (EReal.coe_toReal hlt.ne hgt.ne').symm⟩

/-- A token's softmax is, up to one positive real factor, the exponentials of its logits. -/
theorem soft_real (L : FVec Ideal S16384x16 .f32) (n : Fin 16384) (v : Fin 16 → ℝ) (hL : ∀ r, L (ix2 n r) = (v r : EReal)) :
    ∃ C : ℝ, 0 < C ∧ ∀ r, soft L (ix2 n r) = ((C * Real.exp (v r) : ℝ) : EReal) := by
  obtain ⟨M, hM⟩ := rowMax_real L n v hL
  have he : ∀ r, expo L (ix2 n r) = (Real.exp (v r - M) : EReal) := fun r => by
    show Ideal.exp ((L (ix2 n r) : EReal) - rows (rowMax L) (ix2 n r)) = _
    rw [rows_apply, hM, hL, ← EReal.coe_sub, Ideal.exp_coe]
  have hZ : (0 : ℝ) < ∑ k : Fin 16, Real.exp (v k - M) := Finset.sum_pos (fun _ _ => Real.exp_pos _) Finset.univ_nonempty
  refine ⟨Real.exp (-M) / ∑ k : Fin 16, Real.exp (v k - M), div_pos (Real.exp_pos _) hZ, fun r => ?_⟩
  have hs : soft L (ix2 n r) = Ideal.div (expo L (ix2 n r)) (∑ k : Fin 16, (expo L (ix2 n k) : EReal)) := by
    unfold soft rows
    pointwise
  rw [hs, he, Finset.sum_congr rfl fun k _ => he k, sum_coe, div_real _ hZ.ne']
  rw [sub_eq_add_neg (v r), Real.exp_add]
  refine congrArg _ ?_
  ring

/-! ## The two greatest -/

/-- Which expert's softmax is the token's greater one on comparing two. -/
def gt (L : FVec Ideal S16384x16 .f32) (n : Fin 16384) (k k' : Fin 16) : Bool :=
  FloatOps.cmpfTotal (F := Ideal) (φ := .f32) .gt (soft L (ix2 n k)) (soft L (ix2 n k')) == 1#1

/-- The expert of a token's `p`-th greatest. -/
def pick (L : FVec Ideal S16384x16 .f32) (n : Fin 16384) (p : Fin 2) : Fin 16 :=
  sortedFrom (gt L n) ⟨p.val, by omega⟩

/-- A slice of a matrix that starts at its first row and column reads the index itself. -/
theorem slice_idx {N E K : ℕ} (h : (⟨2, ![N, E]⟩ : Shape).Slices (fun _ => 0) ⟨2, ![N, K]⟩) (hK : K ≤ E) (n : Fin N) (p : Fin K) :
    (fun a => ⟨0 + ((ix2 n p : (⟨2, ![N, K]⟩ : Shape).Idx) (a.cast h.1.symm)).val,
      Nat.lt_of_lt_of_le (Nat.add_lt_add_left ((ix2 n p : (⟨2, ![N, K]⟩ : Shape).Idx) _).isLt _) (h.2 a)⟩ : (⟨2, ![N, E]⟩ : Shape).Idx)
      = ix2 n (p.castLE hK) := by
  funext a
  match a with
  | ⟨0, _⟩ => exact Fin.ext (Nat.zero_add _)
  | ⟨1, _⟩ => exact Fin.ext (Nat.zero_add _)

/-- Replacing the second coordinate of a matrix's index. -/
theorem along_ix2 {N E : ℕ} (n : Fin N) (q k : Fin E) :
    (ix2 n q : (⟨2, ![N, E]⟩ : Shape).Idx).along (⟨1, Nat.one_lt_two⟩ : Fin 2) k = ix2 n k := by
  funext a
  match a with
  | ⟨0, _⟩ => rfl
  | ⟨1, _⟩ => rfl

/-- The position a stable sort of a row of a matrix along its second axis reads index `J`'s output from. -/
def source {α : Type} {N E : ℕ} (f : α → α → BitVec 1) (X : (⟨2, ![N, E]⟩ : Shape).Idx → α) (J : (⟨2, ![N, E]⟩ : Shape).Idx) : Fin E :=
  sortedFrom (fun k k' : Fin E => f (X (J.along (⟨1, Nat.one_lt_two⟩ : Fin 2) k)) (X (J.along (⟨1, Nat.one_lt_two⟩ : Fin 2) k')) == 1#1) (J 1)

/-- At row `n` it depends on that row alone. -/
theorem source_ix2 {α : Type} {N E : ℕ} (f : α → α → BitVec 1) (X : (⟨2, ![N, E]⟩ : Shape).Idx → α) (n : Fin N) (q : Fin E) :
    source f X (ix2 n q) = sortedFrom (fun k k' : Fin E => f (X (ix2 n k)) (X (ix2 n k')) == 1#1) q := by
  unfold source
  simp only [along_ix2]
  rfl

/-- The top-k of a matrix along its second axis, read at an index: row `n`'s `p`-th value is the entry at the position from which a
    stable sort of the row takes its `p`-th output, -/
theorem topK_fst {α : Type} {N E K : ℕ} (f : α → α → BitVec 1) (X : (⟨2, ![N, E]⟩ : Shape).Idx → α)
    (h : (⟨2, ![N, E]⟩ : Shape).Slices (fun _ => 0) ⟨2, ![N, K]⟩) (hK : K ≤ E) (n : Fin N) (p : Fin K) :
    (Host.topK ⟨2, ![N, K]⟩ 1 f X h).1 (ix2 n p)
      = X (ix2 n (sortedFrom (fun k k' : Fin E => f (X (ix2 n k)) (X (ix2 n k')) == 1#1) (p.castLE hK))) := by
  have h1 : (Host.topK ⟨2, ![N, K]⟩ 1 f X h).1 (ix2 n p)
      = (fun J : (⟨2, ![N, E]⟩ : Shape).Idx => X (J.along (⟨1, Nat.one_lt_two⟩ : Fin 2) (source f X J))) (ix2 n (p.castLE hK)) :=
    congrArg (fun J : (⟨2, ![N, E]⟩ : Shape).Idx => X (J.along (⟨1, Nat.one_lt_two⟩ : Fin 2) (source f X J))) (slice_idx h hK n p)
  exact h1.trans (congrArg X ((along_ix2 n (p.castLE hK) (source f X (ix2 n (p.castLE hK)))).trans (congrArg (ix2 n) (source_ix2 f X n _))))

/-- and its `p`-th index is that position's word. -/
theorem topK_snd {α : Type} {N E K : ℕ} (f : α → α → BitVec 1) (X : (⟨2, ![N, E]⟩ : Shape).Idx → α)
    (h : (⟨2, ![N, E]⟩ : Shape).Slices (fun _ => 0) ⟨2, ![N, K]⟩) (hK : K ≤ E) (n : Fin N) (p : Fin K) :
    (Host.topK ⟨2, ![N, K]⟩ 1 f X h).2 (ix2 n p)
      = BitVec.ofNat 32 (sortedFrom (fun k k' : Fin E => f (X (ix2 n k)) (X (ix2 n k')) == 1#1) (p.castLE hK)).val := by
  have h1 : (Host.topK ⟨2, ![N, K]⟩ 1 f X h).2 (ix2 n p)
      = (fun J : (⟨2, ![N, E]⟩ : Shape).Idx => BitVec.ofNat 32 ((J.along (⟨1, Nat.one_lt_two⟩ : Fin 2) (source f X J)) 1).val) (ix2 n (p.castLE hK)) :=
    congrArg (fun J : (⟨2, ![N, E]⟩ : Shape).Idx => BitVec.ofNat 32 ((J.along (⟨1, Nat.one_lt_two⟩ : Fin 2) (source f X J)) 1).val)
      (slice_idx h hK n p)
  exact h1.trans (congrArg (fun J : (⟨2, ![N, E]⟩ : Shape).Idx => BitVec.ofNat 32 (J 1).val)
    ((along_ix2 n (p.castLE hK) (source f X (ix2 n (p.castLE hK)))).trans (congrArg (ix2 n) (source_ix2 f X n _))))

/-- The `p`-th greatest value is the softmax of its expert, -/
theorem top_fst (L : FVec Ideal S16384x16 .f32) (n : Fin 16384) (p : Fin 2) : (top L).1 (ix2 n p) = soft L (ix2 n (pick L n p)) :=
  topK_fst _ _ sliceFits_S16384x16_S16384x2 (by decide) n p

/-- and its index is its expert's. -/
theorem top_snd (L : FVec Ideal S16384x16 .f32) (n : Fin 16384) (p : Fin 2) : (top L).2 (ix2 n p) = BitVec.ofNat 32 (pick L n p).val :=
  topK_snd _ _ sliceFits_S16384x16_S16384x2 (by decide) n p

/-- On real logits the two experts are the two greatest logits'. -/
theorem pick_top2 (L : FVec Ideal S16384x16 .f32) (n : Fin 16384) (v : Fin 16 → ℝ) (hL : ∀ r, L (ix2 n r) = (v r : EReal)) :
    Top2 v (pick L n 0) (pick L n 1) := by
  obtain ⟨C, hC, hs⟩ := soft_real L n v hL
  refine top2_sortedFrom v (gt L n) (fun k k' => ?_) (by decide) (by decide)
  unfold gt
  rw [hs, hs]
  show (BitVec.ofBool (decide (((C * Real.exp (v k') : ℝ) : EReal) < ((C * Real.exp (v k) : ℝ) : EReal))) == 1#1) = _
  have h : ((C * Real.exp (v k') : ℝ) : EReal) < ((C * Real.exp (v k) : ℝ) : EReal) ↔ v k' < v k :=
    EReal.coe_lt_coe_iff.trans ((mul_lt_mul_iff_right₀ hC).trans Real.exp_lt_exp)
  by_cases hk : v k' < v k
  · rw [decide_eq_true (h.mpr hk), decide_eq_true hk]; rfl
  · rw [decide_eq_false (fun e => hk (h.mp e)), decide_eq_false hk]; rfl

/-- The reference's results at a token of real logits: with `a` and `b` the two greatest logits' experts, the weights are
    `1 / (1 + exp (v b - v a))` and `exp (v b - v a) / (1 + exp (v b - v a))` and the indices are `a` and `b`. -/
theorem value (L : FVec Ideal S16384x16 .f32) (n : Fin 16384) (v : Fin 16 → ℝ) (hL : ∀ r, L (ix2 n r) = (v r : EReal)) :
    ∃ a b : Fin 16, Top2 v a b
      ∧ weights L (ix2 n 0) = ((1 / (1 + Real.exp (v b - v a)) : ℝ) : EReal)
      ∧ weights L (ix2 n 1) = ((Real.exp (v b - v a) / (1 + Real.exp (v b - v a)) : ℝ) : EReal)
      ∧ (top L).2 (ix2 n 0) = BitVec.ofNat 32 a.val ∧ (top L).2 (ix2 n 1) = BitVec.ofNat 32 b.val := by
  obtain ⟨C, hC, hs⟩ := soft_real L n v hL
  have hw : ∀ p : Fin 2, weights L (ix2 n p) = Ideal.div ((top L).1 (ix2 n p)) (∑ q : Fin 2, ((top L).1 (ix2 n q) : EReal)) := fun p => by
    unfold weights
    pointwise
  refine ⟨pick L n 0, pick L n 1, pick_top2 L n v hL, ?_, ?_, top_snd L n 0, top_snd L n 1⟩
  all_goals
    rw [hw, Finset.sum_congr rfl fun q _ => (top_fst L n q).trans (hs _), sum_coe, Fin.sum_univ_two, top_fst, hs, div_real _ (by positivity),
      Real.exp_sub]
    refine congrArg _ ?_
    field_simp

end Cert.Reference

end
-- ==== Proof.Value.lean ====
/-
  The kernel's two results over the extended reals are the reference's, on finite arguments.
-/
module

public import proofs.«01_k».proof.Defs
public import proofs.«01_k».proof.Proof.Run
public import proofs.«01_k».proof.Proof.Logits
public import proofs.«01_k».proof.Proof.Reference
public import proofs.«01_k».proof.Proof.Gen.Pre_finite
public import Idealize.ShloMosaic.Lib.ReduceAll

@[expose] public section

noncomputable section

namespace Cert.Value

open Idealize.ShloMosaic Idealize.SL.Sem Cert.Order
open Cert.KernelIdeal.Routing (xLoc wLoc rLoc sLoc RV SV WV IV LT LT_eq logitsT xArr wArr weights indices weight index col neg)

/-! ## Finite arguments -/

/-- An extended real whose absolute value is below infinity is real. -/
theorem real_of_lt (x : EReal) (h : FloatOps.cmpf (F := Ideal) (φ := .f32) .olt (max x (-x)) (Ideal.ofBits .f32 0x7F800000#32) = 1#1) :
    ∃ r : ℝ, x = (r : EReal) := by
  have ht : Ideal.ofBits .f32 0x7F800000#32 = ⊤ := by simp [Ideal.ofBits, Ideal.ieee]
  have hlt : max x (-x) < (⊤ : EReal) := by
    rw [ht] at h
    by_contra hn
    have h0 : FloatOps.cmpf (F := Ideal) (φ := .f32) .olt (max x (-x)) ⊤ = BitVec.ofBool (decide (max x (-x) < (⊤ : EReal))) := rfl
    rw [h0, decide_eq_false hn] at h
    exact absurd h (by decide)
  obtain ⟨h1, h2⟩ := max_lt_iff.mp hlt
  refine ⟨x.toReal, (EReal.coe_toReal h1.ne fun hb => ?_).symm⟩
  rw [hb, EReal.neg_bot] at h2
  exact lt_irrefl _ h2

/-- The precondition makes every entry of both arguments real. -/
theorem finite (x : FVec Ideal Cert.Pre_finite.S16384x2048 .f32) (W : FVec Ideal Cert.Pre_finite.S16x2048 .f32)
    (h : Cert.Pre_finite.fn (F := Ideal) x W = fun _ => 1#1) : (∀ i, ∃ r : ℝ, x i = (r : EReal)) ∧ ∀ i, ∃ r : ℝ, W i = (r : EReal) := by
  have hand : ∀ x y : BitVec 1, IntOp.andi x y = 1#1 → x = 1#1 ∧ y = 1#1 := by decide
  have : Subsingleton Cert.Pre_finite.S_.Idx := ⟨fun a b => funext fun i => i.elim0⟩
  obtain ⟨h1, h2⟩ := hand _ _ (congrFun h (fun i => i.elim0))
  exact ⟨fun i => real_of_lt _ (Host.reduce_andi_all _ _ _ _ _ h1 i), fun i => real_of_lt _ (Host.reduce_andi_all _ _ _ _ _ h2 i)⟩

/-! ## The two programs' results -/

variable (m : (ℓ : Loc Cert.KernelIdeal.nD Cert.KernelIdeal.τ Cert.KernelIdeal.sig) → Buf (Elt Ideal) ℓ) (d : Dev Cert.KernelIdeal.nD)

/-- The constant standing for minus infinity is minus infinity. -/
theorem neg_eq : (neg (F := Ideal)) = (⊥ : EReal) := rfl

/-- A transposed logit is the reference's. -/
theorem logitsT_eq (n : Fin 16384) (r : Fin 16) : logitsT m d (ix2 r n) = Reference.logits (m (xLoc d)) (m (wLoc d)) (ix2 n r) := by
  rw [Reference.logits_apply]
  exact Finset.sum_congr rfl fun k _ => mul_comm _ _

/-- On finite arguments every token's logits are real. -/
theorem logits_real (x : FVec Ideal Cert.ReferenceIdeal.S16384x2048 .f32) (W : FVec Ideal Cert.ReferenceIdeal.S16x2048 .f32)
    (hx : ∀ i, ∃ r : ℝ, x i = (r : EReal)) (hW : ∀ i, ∃ r : ℝ, W i = (r : EReal)) (n : Fin 16384) :
    ∃ v : Fin 16 → ℝ, ∀ r, Reference.logits x W (ix2 n r) = (v r : EReal) := by
  choose x' hx using hx
  choose W' hW using hW
  refine ⟨fun r => ∑ k : Fin 2048, x' (ix2 n k) * W' (ix2 r k), fun r => ?_⟩
  rw [Reference.logits_apply, ← Reference.sum_coe]
  exact Finset.sum_congr rfl fun k _ => by rw [hx, hW, EReal.coe_mul]

/-- A token's column of the transposed logits, by expert. -/
theorem col_eq (n : Fin 16384) (v : Fin 16 → ℝ) (hv : ∀ r, Reference.logits (m (xLoc d)) (m (wLoc d)) (ix2 n r) = (v r : EReal)) (r : Fin 16) :
    col (F := Ideal) (logitsT m d) n r.val = (v r : EReal) := by
  unfold col
  rw [← hv r, ← logitsT_eq]
  exact congrArg (fun r => logitsT m d (ix2 r n)) (Fin.ext (Nat.mod_eq_of_lt r.isLt))

/-- The weights at an index, -/
theorem RV_apply (n : Fin 16384) (p : Fin 2) : (RV m d : Cert.KernelIdeal.S16384x2.Idx → EReal) (ix2 n p) = weight (F := Ideal) (col (logitsT m d) n) p.val := by
  unfold RV
  rw [show WV m d = weights (F := Ideal) (N := 16384) (logitsT m d) from congrArg (weights (F := Ideal) (N := 16384)) (LT_eq m d)]
  pointwise
  rfl

/-- and the experts. -/
theorem SV_apply (n : Fin 16384) (p : Fin 2) : (SV m d : Cert.KernelIdeal.S16384x2.Idx → BitVec 32) (ix2 n p) = index (F := Ideal) (col (logitsT m d) n) p.val := by
  unfold SV
  rw [show IV m d = indices (F := Ideal) (N := 16384) (logitsT m d) from congrArg (indices (F := Ideal) (N := 16384)) (LT_eq m d)]
  pointwise
  rfl

variable (hfin : Cert.Pre_finite.fn (F := Ideal) (m (xLoc d)) (m (wLoc d)) = fun _ => 1#1)
include hfin

/-- On finite arguments the kernel's weights are the reference's, -/
theorem weights_eq : Reference.weights (Reference.logits (m (xLoc d)) (m (wLoc d))) = (RV m d : Cert.KernelIdeal.S16384x2.Idx → EReal) := by
  obtain ⟨hx, hW⟩ := finite _ _ hfin
  have h : ∀ (n : Fin 16384) (p : Fin 2), Reference.weights (Reference.logits (m (xLoc d)) (m (wLoc d))) (ix2 n p)
      = (RV m d : Cert.KernelIdeal.S16384x2.Idx → EReal) (ix2 n p) := fun n p => by
    obtain ⟨v, hv⟩ := logits_real _ _ hx hW n
    obtain ⟨a, b, hab, h0, h1, -, -⟩ := Reference.value _ n v hv
    have hc := col_eq m d n v hv
    rw [RV_apply]
    match p with
    | 0 => exact h0.trans (Choice.w1_eq hc hab).symm
    | 1 => exact h1.trans (Choice.w2_eq hc hab).symm
  funext y
  rw [eq_ix2 y]
  exact h (y 0) (y 1)

/-- and its experts the reference's. -/
theorem indices_eq : (Reference.top (Reference.logits (m (xLoc d)) (m (wLoc d)))).2 = (SV m d : Cert.KernelIdeal.S16384x2.Idx → BitVec 32) := by
  obtain ⟨hx, hW⟩ := finite _ _ hfin
  have h : ∀ (n : Fin 16384) (p : Fin 2), (Reference.top (Reference.logits (m (xLoc d)) (m (wLoc d)))).2 (ix2 n p)
      = (SV m d : Cert.KernelIdeal.S16384x2.Idx → BitVec 32) (ix2 n p) := fun n p => by
    obtain ⟨v, hv⟩ := logits_real _ _ hx hW n
    obtain ⟨a, b, hab, -, -, h0, h1⟩ := Reference.value _ n v hv
    have hc := col_eq m d n v hv
    rw [SV_apply]
    match p with
    | 0 => exact h0.trans (Choice.i1_eq hc hab).symm
    | 1 => exact h1.trans (Choice.i2_eq hc hab).symm
  funext y
  rw [eq_ix2 y]
  exact h (y 0) (y 1)

omit hfin

/-- On finite arguments the kernel and the reference end with equal results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := fun m ρ m' ρ' hpre hargs => by
  refine ⟨fun c => RV m c, fun c => SV m c, ?_, ?_⟩
  · exact (θ_run Cert.KernelIdeal.defs _ _).mono (fun _ h c => ⟨(h.1 c).2.2.1, (h.1 c).2.2.2, (h.1 c).1, (h.1 c).2.1⟩)
      (Cert.KernelIdeal.Routing.run_main (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [(hargs c).1, (hargs c).2]; exact weights_eq m c (hpre c)
    · rw [(hargs c).1, (hargs c).2]; exact indices_eq m c (hpre c)

end Cert.Value

end
-- ==== Proof.lean ====
/-
  The claim: the kernel on the machine's floats and on extended reals, and the reference, each run to completion from every memory with
  their arguments unchanged and every semaphore at zero; the kernel's one renamed constant keeps its value; and on finite arguments the
  kernel's weights and experts are the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Frames
public import proofs.«01_k».proof.Proof.Value

@[expose] public section

noncomputable section

namespace Cert.Proof

theorem claim : Cert.Claim := ⟨Cert.Kernel.Gen.facts, Cert.KernelIdeal.Gen.facts, Cert.ReferenceIdeal.Gen.facts, Cert.Pre_finite.Gen.facts,
  Frames.machine, Frames.ideal, Frames.ideal_finite, Frames.reference, Frames.reference_finite, Frames.mask, Value.algebraic⟩

end Cert.Proof

end
